-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S512x2048x3 : Shape := ⟨3, ![512, 2048, 3]⟩
abbrev S512 : Shape := ⟨1, ![512]⟩
abbrev S1x512 : Shape := ⟨2, ![1, 512]⟩
abbrev S1 : Shape := ⟨1, ![1]⟩
abbrev S_ : Shape := ⟨0, ![]⟩
abbrev S3x512x2048 : Shape := ⟨3, ![3, 512, 2048]⟩
abbrev S512x1 : Shape := ⟨2, ![512, 1]⟩
abbrev S1x1 : Shape := ⟨2, ![1, 1]⟩
abbrev S2x2048x1 : Shape := ⟨3, ![2, 2048, 1]⟩
abbrev S2x2048 : Shape := ⟨2, ![2, 2048]⟩
abbrev S1x512x2048 : Shape := ⟨3, ![1, 512, 2048]⟩
abbrev S1x2048x1 : Shape := ⟨3, ![1, 2048, 1]⟩
abbrev S2112x2048 : Shape := ⟨2, ![2112, 2048]⟩
abbrev S32x2048 : Shape := ⟨2, ![32, 2048]⟩
abbrev S512x2048 : Shape := ⟨2, ![512, 2048]⟩
abbrev S576x2048 : Shape := ⟨2, ![576, 2048]⟩
abbrev S576x512 : Shape := ⟨2, ![576, 512]⟩
abbrev S512x512 : Shape := ⟨2, ![512, 512]⟩
abbrev S1x512x1 : Shape := ⟨3, ![1, 512, 1]⟩

abbrev nBuf : Space → Nat
  | .hbm => 17
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S512x2048x3, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S_, .i32⟩
  | .hbm, ⟨7, _⟩ => ⟨S_, .f32⟩
  | .hbm, ⟨8, _⟩ => ⟨S512x2048x3, .f32⟩
  | .hbm, ⟨9, _⟩ => ⟨S512x2048x3, .f32⟩
  | .hbm, ⟨10, _⟩ => ⟨S512x2048x3, .fp8e4m3⟩
  | .hbm, ⟨11, _⟩ => ⟨S3x512x2048, .fp8e4m3⟩
  | .hbm, ⟨12, _⟩ => ⟨S1x512, .f32⟩
  | .hbm, ⟨13, _⟩ => ⟨S512x1, .f32⟩
  | .hbm, ⟨14, _⟩ => ⟨S1x1, .f32⟩
  | .hbm, ⟨15, _⟩ => ⟨S2x2048x1, .f32⟩
  | .hbm, ⟨16, _⟩ => ⟨S2x2048, .f32⟩
  | .local _ .vmem, ⟨0, _⟩ => ⟨S1x512x2048, .f32⟩
  | .local _ .vmem, ⟨1, _⟩ => ⟨S1x512x2048, .f32⟩
  | .local _ .vmem, ⟨2, _⟩ => ⟨S3x512x2048, .fp8e4m3⟩
  | .local _ .vmem, ⟨3, _⟩ => ⟨S1x512, .f32⟩
  | .local _ .vmem, ⟨4, _⟩ => ⟨S512x1, .f32⟩
  | .local _ .vmem, ⟨5, _⟩ => ⟨S1x1, .f32⟩
  | .local _ .vmem, ⟨6, _⟩ => ⟨S1x2048x1, .f32⟩
  | .local _ .vmem, ⟨7, _⟩ => ⟨S1x2048x1, .f32⟩
  | .local _ .vmem, ⟨8, _⟩ => ⟨S2112x2048, .fp8e4m3⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let c32_i32 : BitVec 32 := 32#32
  let arg1 : BitVec 32 := BitVec.ofNat 32 (i 1).val
  let c512_i32 : BitVec 32 := 512#32
  let v9 : BitVec 32 := Scalar.muli arg1 c512_i32
  let v10 : BitVec 32 := Scalar.addi c32_i32 v9
  v10
def k0_off1 (i : grid0.Coords) : Fin 2 → Nat :=
  let c32_i32 : BitVec 32 := 32#32
  let arg1 : BitVec 32 := BitVec.ofNat 32 (i 1).val
  let c512_i32 : BitVec 32 := 512#32
  let v9 : BitVec 32 := Scalar.muli arg1 c512_i32
  let v10 : BitVec 32 := Scalar.addi c32_i32 v9
  let v11 : BitVec 32 := v10
  let v15 : Index := Scalar.indexCast v11
  let c0_6 : Index := 0#32
  ![v15.toNat, 0]
def k0_cond3 (i : grid0.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .ne v7 c0_i32_3
  v8

def k0_mult2 (i : grid0.Coords) : BitVec 32 :=
  let arg1 : BitVec 32 := BitVec.ofNat 32 (i 1).val
  let c1_i32 : BitVec 32 := 1#32
  let v9 : BitVec 32 := Scalar.subi arg1 c1_i32
  let c512_i32 : BitVec 32 := 512#32
  let v10 : BitVec 32 := Scalar.muli v9 c512_i32
  v10
def k0_off2 (i : grid0.Coords) : Fin 2 → Nat :=
  let arg1 : BitVec 32 := BitVec.ofNat 32 (i 1).val
  let c1_i32 : BitVec 32 := 1#32
  let v9 : BitVec 32 := Scalar.subi arg1 c1_i32
  let c512_i32 : BitVec 32 := 512#32
  let v10 : BitVec 32 := Scalar.muli v9 c512_i32
  let v11 : BitVec 32 := v10
  let v12 : Index := Scalar.indexCast v11
  let c0 : Index := 0#32
  ![v12.toNat, 0]
def k0_off3 (i : grid0.Coords) : Fin 3 → Nat :=
  let c0_22 : Index := 0#32
  let arg1 : BitVec 32 := BitVec.ofNat 32 (i 1).val
  let c1_i32 : BitVec 32 := 1#32
  let v9 : BitVec 32 := Scalar.subi arg1 c1_i32
  let c512_i32 : BitVec 32 := 512#32
  let v10 : BitVec 32 := Scalar.muli v9 c512_i32
  let v11 : BitVec 32 := v10
  let v44 : Index := Scalar.indexCast v11
  let c0_23 : Index := 0#32
  ![0, v44.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x2048x2048 : Shape := ⟨3, ![2, 2048, 2048]⟩
abbrev S512x2048x3 : Shape := ⟨3, ![512, 2048, 3]⟩
abbrev S512 : Shape := ⟨1, ![512]⟩
abbrev S1x512 : Shape := ⟨2, ![1, 512]⟩
abbrev S1 : Shape := ⟨1, ![1]⟩
abbrev S_ : Shape := ⟨0, ![]⟩
abbrev S2x2050x2048 : Shape := ⟨3, ![2, 2050, 2048]⟩
abbrev S512x2048x1 : Shape := ⟨3, ![512, 2048, 1]⟩
abbrev S512x2048 : Shape := ⟨2, ![512, 2048]⟩
abbrev S2x2048x512 : Shape := ⟨3, ![2, 2048, 512]⟩
abbrev S1x1x512 : Shape := ⟨3, ![1, 1, 512]⟩
abbrev S4x2048x512 : Shape := ⟨3, ![4, 2048, 512]⟩
abbrev S4x2048x1 : Shape := ⟨3, ![4, 2048, 1]⟩
abbrev S1x1x1 : Shape := ⟨3, ![1, 1, 1]⟩
abbrev S4x2048 : Shape := ⟨2, ![4, 2048]⟩
abbrev S2x2048 : Shape := ⟨2, ![2, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S512x2048x3, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S2x2050x2048, .f32⟩
  | .hbm, ⟨10, _⟩ => ⟨S2x2048x2048, .f32⟩
  | .hbm, ⟨11, _⟩ => ⟨S512x2048x1, .f32⟩
  | .hbm, ⟨12, _⟩ => ⟨S512x2048, .f32⟩
  | .hbm, ⟨13, _⟩ => ⟨S2x2048x512, .f32⟩
  | .hbm, ⟨14, _⟩ => ⟨S2x2048x2048, .f32⟩
  | .hbm, ⟨15, _⟩ => ⟨S512x2048x1, .f32⟩
  | .hbm, ⟨16, _⟩ => ⟨S512x2048, .f32⟩
  | .hbm, ⟨17, _⟩ => ⟨S2x2048x512, .f32⟩
  | .hbm, ⟨18, _⟩ => ⟨S2x2048x512, .f32⟩
  | .hbm, ⟨19, _⟩ => ⟨S2x2048x2048, .f32⟩
  | .hbm, ⟨20, _⟩ => ⟨S512x2048x1, .f32⟩
  | .hbm, ⟨21, _⟩ => ⟨S512x2048, .f32⟩
  | .hbm, ⟨22, _⟩ => ⟨S2x2048x512, .f32⟩
  | .hbm, ⟨23, _⟩ => ⟨S2x2048x512, .f32⟩
  | .hbm, ⟨24, _⟩ => ⟨S1x1x512, .f32⟩
  | .hbm, ⟨25, _⟩ => ⟨S2x2048x512, .f32⟩
  | .hbm, ⟨26, _⟩ => ⟨S2x2048x512, .f32⟩
  | .hbm, ⟨27, _⟩ => ⟨S_, .f32⟩
  | .hbm, ⟨28, _⟩ => ⟨S2x2048x512, .f32⟩
  | .hbm, ⟨29, _⟩ => ⟨S2x2048x512, .f32⟩
  | .hbm, ⟨30, _⟩ => ⟨S_, .i32⟩
  | .hbm, ⟨31, _⟩ => ⟨S_, .f32⟩
  | .hbm, ⟨32, _⟩ => ⟨S2x2050x2048, .f32⟩
  | .hbm, ⟨33, _⟩ => ⟨S2x2048x2048, .f32⟩
  | .hbm, ⟨34, _⟩ => ⟨S512x2048x1, .f32⟩
  | .hbm, ⟨35, _⟩ => ⟨S512x2048, .f32⟩
  | .hbm, ⟨36, _⟩ => ⟨S2x2048x512, .f32⟩
  | .hbm, ⟨37, _⟩ => ⟨S2x2048x2048, .f32⟩
  | .hbm, ⟨38, _⟩ => ⟨S512x2048x1, .f32⟩
  | .hbm, ⟨39, _⟩ => ⟨S512x2048, .f32⟩
  | .hbm, ⟨40, _⟩ => ⟨S2x2048x512, .f32⟩
  | .hbm, ⟨41, _⟩ => ⟨S2x2048x512, .f32⟩
  | .hbm, ⟨42, _⟩ => ⟨S2x2048x2048, .f32⟩
  | .hbm, ⟨43, _⟩ => ⟨S512x2048x1, .f32⟩
  | .hbm, ⟨44, _⟩ => ⟨S512x2048, .f32⟩
  | .hbm, ⟨45, _⟩ => ⟨S2x2048x512, .f32⟩
  | .hbm, ⟨46, _⟩ => ⟨S2x2048x512, .f32⟩
  | .hbm, ⟨47, _⟩ => ⟨S1x1x512, .f32⟩
  | .hbm, ⟨48, _⟩ => ⟨S2x2048x512, .f32⟩
  | .hbm, ⟨49, _⟩ => ⟨S2x2048x512, .f32⟩
  | .hbm, ⟨50, _⟩ => ⟨S_, .f32⟩
  | .hbm, ⟨51, _⟩ => ⟨S2x2048x512, .f32⟩
  | .hbm, ⟨52, _⟩ => ⟨S2x2048x512, .f32⟩
  | .hbm, ⟨53, _⟩ => ⟨S4x2048x512, .f32⟩
  | .hbm, ⟨54, _⟩ => ⟨S4x2048x1, .f32⟩
  | .hbm, ⟨55, _⟩ => ⟨S1x1x1, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048, .f32⟩
  | .hbm, ⟨67, _⟩ => ⟨S2x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_cst : Ref sig .tc := ⟨.hbm, 27, rfl⟩
abbrev main_call1_v0 : Ref sig .tc := ⟨.hbm, 28, rfl⟩
abbrev main_v18 : Ref sig .tc := ⟨.hbm, 29, rfl⟩
abbrev main_c_0 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call3_cst : Ref sig .tc := ⟨.hbm, 50, rfl⟩
abbrev main_call3_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst : Ref sig .tc := ⟨.hbm, 60, rfl⟩
abbrev main_v45 : Ref sig .tc := ⟨.hbm, 61, rfl⟩
abbrev main_v46 : Ref sig .tc := ⟨.hbm, 62, rfl⟩
abbrev main_cst_1 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.KernelFrame.lean ====
module

public import proofs.«01_k».proof.Proof.KernelRun
public import Idealize.ShloMosaic.Lib.Pipeline.FrameBody
public import Idealize.ShloMosaic.Lib.Pipeline.FrameSuffix

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- At any point the kernel runs from its operands held at any contents to its return, the five inputs as they were. -/
theorem anyPoint (c : Dev nD) (t : Fin grid0.N)
    (a2 : Memref sig .tc .vmem S1x512x2048 .f32) (ha2 : a2.IsWhole) (a3 : Memref sig .tc .vmem S3x512x2048 .fp8e4m3) (ha3 : a3.IsWhole)
    (a4 : Memref sig .tc .vmem S1x512 .f32) (ha4 : a4.IsWhole) (a5 : Memref sig .tc .vmem S512x1 .f32) (ha5 : a5.IsWhole)
    (a6 : Memref sig .tc .vmem S1x1 .f32) (ha6 : a6.IsWhole) (a7 : Memref sig .tc .vmem S1x2048x1 .f32) (ha7 : a7.IsWhole)
    (x : FVec F S1x512x2048 .f32) (w : FVec F S3x512x2048 .fp8e4m3) (b : FVec F S1x512 .f32) (l : FVec F S512x1 .f32) (bl : FVec F S1x1 .f32)
    (y : FVec F S1x2048x1 .f32) (s : FVec F S2112x2048 .fp8e4m3)
    (K : PUnit → sProp 𝕄) :
    iprop(held c a2 a3 a4 a5 a6 a7 x w b l bl y s
        ∗ ((∃ y', ∃ s', held c a2 a3 a4 a5 a6 a7 x w b l bl y' s') -∗ K ⟨⟩))
      ⊢ wp frame (wpE (defs₀ (F := F)) Variants.none c none) Set.univ
          (cc0__rapn_kernel (grid0.coords t) a2 ha2 a3 ha3 a4 ha4 a5 ha5 a6 ha6 a7 ha7 scM (Memref.isWhole_whole _)) K := by
  iintro ⟨H, Hk⟩
  rcases kinds t with ⟨-, h1, h2, h3⟩ | ⟨-, h1, h2, h3⟩ | ⟨-, h1, h2, h3⟩
  · iapply (first c (grid0.coords t) h1 h2 h3 a2 ha2 a3 ha3 a4 ha4 a5 ha5 a6 ha6 a7 ha7 x w b l bl y s K)
    isplitl [H]; · iexact H
    iintro H; iapply Hk; iexists _; iexists _; iexact H
  · iapply (mid c (grid0.coords t) h1 h2 h3 a2 ha2 a3 ha3 a4 ha4 a5 ha5 a6 ha6 a7 ha7 x w b l bl y s K)
    isplitl [H]; · iexact H
    iintro H; iapply Hk; iexists _; iexists _; iexact H
  · iapply (last c (grid0.coords t) h1 h2 h3 a2 ha2 a3 ha3 a4 ha4 a5 ha5 a6 ha6 a7 ha7 x w b l bl y s K)
    isplitl [H]; · iexact H
    iintro H; iapply Hk; iexists _; iexists _; iexact H

/-- The window whose contents the frame does not follow: the result's. -/
def unread : Fin cfg0.W → Bool := (![false, false, false, false, false, true] : Fin 6 → Bool)

/-- The frame's proof data: each input's block stays as fetched, the result's is not named, the scratch holds anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem stays0 (c : Dev nD) (t d) : (dats m 0 c).before 0 t d = iblk m c 0 t := before0_0_of m _ (A_eq m c 0) (fun _ => rfl) t d
theorem stays1 (c : Dev nD) (t d) : (dats m 0 c).before 1 t d = iblk m c 1 t := before0_1_of m _ (A_eq m c 1) (fun _ => rfl) t d
theorem stays2 (c : Dev nD) (t d) : (dats m 0 c).before 2 t d = iblk m c 2 t := before0_2_of m _ (A_eq m c 2) (fun _ => rfl) t d
theorem stays3 (c : Dev nD) (t d) : (dats m 0 c).before 3 t d = iblk m c 3 t := before0_3_of m _ (A_eq m c 3) (fun _ => rfl) t d
theorem stays4 (c : Dev nD) (t d) : (dats m 0 c).before 4 t d = iblk m c 4 t := before0_4_of m _ (A_eq m c 4) (fun _ => rfl) t d

/-- Between points: the scratch at some contents and the generator's register at some state. -/
theorem between_eq (c : Dev nD) :
    (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

/-- The body obligation of one point. -/
theorem onePoint (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare d))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (iblk m c 4 t)
          ∗ (∃ d, owns (c : Thread nD τ) (st0_5 t) fullShare d))) := by
  simp only [stays0, stays1, stays2, stays3, stays4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq]
  iintro ⟨⟨⟨%s, HS⟩, Hg⟩, HO, ⟨%d0, H0⟩, ⟨%d1, H1⟩, ⟨%d2, H2⟩, ⟨%d3, H3⟩, ⟨%d4, H4⟩, ⟨%y, H5⟩⟩
  iapply (anyPoint c t (st0_0 t) _ (st0_1 t) _ (st0_2 t) _ (st0_3 t) _ (st0_4 t) _ (st0_5 t) _
    (iblk m c 0 t) (iblk m c 1 t) (iblk m c 2 t) (iblk m c 3 t) (iblk m c 4 t) y s _)
  unfold held
  isplitl [HS H0 H1 H2 H3 H4 H5]
  · isplitl [H0]; · iexact H0
    isplitl [H1]; · iexact H1
    isplitl [H2]; · iexact H2
    isplitl [H3]; · iexact H3
    isplitl [H4]; · iexact H4
    isplitl [H5]; · iexact H5
    iexact HS
  iintro ⟨%y', %s', H0, H1, H2, H3, H4, H5, HS⟩
  isplitl [HS Hg]
  · isplitl [HS]; · iexists _; iexact HS
    iexact Hg
  isplitl [HO]; · iexact HO
  isplitl [H0]; · iexact H0
  isplitl [H1]; · iexact H1
  isplitl [H2]; · iexact H2
  isplitl [H3]; · iexact H3
  isplitl [H4]; · iexact H4
  iexists _; iexact H5

/-- The body obligation, the result's window not followed. -/
theorem obligation (c : Dev nD) : BodyObligation (dats (F := F) m 0 c) (defs₀ (F := F)) Variants.none () Set.univ unread := fun t => by
  rw [bigSep_W0, bigSep_W0, defs₀_row]
  exact triple_restated (onePoint m c t) rfl .rfl fun _ => .rfl

/-- The lines after the region write the result only. -/
theorem later_writes : ∀ ops ∈ ([hostOps1] : List (List (HloOp τ sig (Elt F)))), ∀ op ∈ ops, ∀ b : Ref sig .tc,
    Proc.devRef .tc b ∈ op.writes → b ∈ ({main_v7} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  rw [Finset.mem_singleton]
  by_contra hne
  exact StableHlo.devRef_ne_of_ne hne hb

set_option backward.isDefEq.respectTransparency.types false in
/-- Every execution ends, with the arguments as launched and the counters at zero. -/
theorem run_main :
    θ_run defs (onTc (τ := τ) (main (F := F))) (s₀ m ρ)
      (fun r => Pipeline.RDat.FramePostR (cfgs 0) (fun c => (dats m 0 c).toRForget unread) {main_v7} (V m) r ∧ r.2.sem = fun _ => 0) :=
  Pipeline.θ_run_frame_around_T_forget (Q' := _) cfgs (dats m) (0 : Fin 1) launch0 defs₀ Variants.none unread {main_v7} m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := later_writes) (hmain := hmain m Variants.none) (hA := A_eq m) (hΦ := fun _ _ => rfl)

/-- The arguments after the run. -/
theorem frame_run :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) := by
  refine (θ_run defs _ _).mono (fun r h => ⟨fun c => ?_, h.2⟩) (run_main m ρ)
  obtain ⟨ha, hr⟩ := h.1 c
  have rest : ∀ b : Ref sig .tc, b ∈ Pipeline.restRefs sig spec0 → b ∉ ({main_v7} : Finset (Ref sig .tc)) →
      r.2.mem ((c : Thread nD τ).loc b) = V m c b := fun b hb hn => hr b (Finset.mem_sdiff.mpr ⟨hb, hn⟩)
  refine ⟨?_, ?_, ?_, ?_, ?_, ?_, ?_⟩
  · have h0 := ha 0
    rw [Pipeline.RDat.ArrAt_in _ 0 rfl] at h0
    exact h0.trans (V_main_arg0 m c)
  · exact (rest main_arg1 (Pipeline.mem_restRefs_of main_arg1 (by decide) (by decide)) (by decide)).trans (V_main_arg1 m c)
  · exact (rest main_arg2 (Pipeline.mem_restRefs_of main_arg2 (by decide) (by decide)) (by decide)).trans (V_main_arg2 m c)
  · exact (rest main_arg3 (Pipeline.mem_restRefs_of main_arg3 (by decide) (by decide)) (by decide)).trans (V_main_arg3 m c)
  · exact (rest main_arg4 (Pipeline.mem_restRefs_of main_arg4 (by decide) (by decide)) (by decide)).trans (V_main_arg4 m c)
  · exact (rest main_arg5 (Pipeline.mem_restRefs_of main_arg5 (by decide) (by decide)) (by decide)).trans (V_main_arg5 m c)
  · exact (rest main_arg6 (Pipeline.mem_restRefs_of main_arg6 (by decide) (by decide)) (by decide)).trans (V_main_arg6 m c)

end Cert.Kernel.Run

end
-- ==== Proof.KernelIdealRun.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.DatRel
public import Idealize.ShloMosaic.Lib.Tactic
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The rows of the scratch that the tile's products read: from `512 * (j - 1)` on, as the 32-bit words compute it. -/
theorem off2_eq : ∀ i : grid0.Coords, k0_off2 i = ![(512 * (i 1).val + 4294966784) % 4294967296, 0] := by decide +kernel
/-- The rows of the result's block that the tile fills. -/
theorem off3_eq : ∀ i : grid0.Coords, k0_off3 i = ![0, (512 * (i 1).val + 4294966784) % 4294967296, 0] := by decide +kernel
instance (i : grid0.Coords) : ClosedOff (k0_off2 i) := ⟨_, off2_eq i⟩
instance (i : grid0.Coords) : ClosedOff (k0_off3 i) := ⟨_, off3_eq i⟩

/-- The scratch array, whole. -/
abbrev scM : Memref sig .tc .vmem S2112x2048 .fp8e4m3 := Memref.whole cc0_scratch0

/-- The kernel's first guard (it opens a new sample) as the printed program spells it. -/
abbrev opens (i : grid0.Coords) : Prop :=
  Scalar.cmpi .ne (Scalar.extui (Scalar.cmpi .eq (BitVec.ofNat 32 (i 1).val) 0#32) : BitVec 32) 0#32 = 1#1

/-! ## What one point does to the scratch and to the result's block -/

/-- The scratch when a sample is opened: the 32 rows before the sample's first and the 32 after its last are zero. -/
def opened (s : FVec F S2112x2048 .fp8e4m3) : FVec F S2112x2048 .fp8e4m3 :=
  VecWindow.put (VecWindow.put s ![0, 0] S32x2048.size (k0_pay1 (F := F))) ![2080, 0] S32x2048.size (k0_pay2 (F := F))

/-- The scratch once a block of 512 rows has been copied in. -/
def placed (i : grid0.Coords) (x : FVec F S1x512x2048 .f32) (s : FVec F S2112x2048 .fp8e4m3) : FVec F S2112x2048 .fp8e4m3 :=
  VecWindow.put s (k0_off1 i) S512x2048.size (k0_pay3 x)

/-- The 512 scores of a tile, from the scratch and the four parameter blocks. -/
def tile (i : grid0.Coords) (h3 : k0_cond3 i = 1#1) (w : FVec F S3x512x2048 .fp8e4m3) (b : FVec F S1x512 .f32) (l : FVec F S512x1 .f32)
    (bl : FVec F S1x1 .f32) (s : FVec F S2112x2048 .fp8e4m3) : FVec F S512x1 .f32 :=
  k0_pay5 (VecWindow.window s (k0_off2 i) S576x2048.size (k0_off2_inb i h3))
    (VecWindow.window w ![0, 0, 0] S1x512x2048.size inb_S3x512x2048_S1x512x2048_0_0_0)
    (VecWindow.window w ![1, 0, 0] S1x512x2048.size inb_S3x512x2048_S1x512x2048_1_0_0)
    (VecWindow.window w ![2, 0, 0] S1x512x2048.size inb_S3x512x2048_S1x512x2048_2_0_0) b l bl

/-- The result's block once a tile's scores have been stored in it. -/
def filled (i : grid0.Coords) (y : FVec F S1x2048x1 .f32) (v : FVec F S512x1 .f32) : FVec F S1x2048x1 .f32 :=
  VecWindow.put y (k0_off3 i) S1x512x1.size (k0_pay4 v)

/-- What the run leaves in the scratch at a point that copies a block in, as `placed`. -/
theorem placed_of_reads (i : grid0.Coords) (h2 : k0_cond2 i = 1#1) (a2 : Memref sig .tc .vmem S1x512x2048 .f32)
    (f2 : a2.view.ty.Contents (Elt F)) (f8 : scM.view.ty.Contents (Elt F)) (x : FVec F S1x512x2048 .f32) (s : FVec F S2112x2048 .fp8e4m3)
    (e2 : a2.view.read (Elt F) f2 = x) (e8 : scM.view.read (Elt F) f8 = s) :
    scM.view.read (Elt F) (scM.view.writes (Elt F) f8
        [⟨Rect.unit (s := S2112x2048) (k0_off1 i) S512x2048.size (k0_off1_inb i h2),
          k0_pay3 (a2.view.readAt (Elt F) (Rect.unit (s := S1x512x2048) ![0, 0, 0] S1x512x2048.size inb_S1x512x2048_S1x512x2048_0_0_0).toLoadRect f2)⟩])
      = placed i x s := by
  rw [View.read_writes_cons_put _ _ _ _ _ rfl, View.writes_nil, e8]
  unfold placed
  rw [← e2, ← View.readAt_full a2.view f2 inb_S1x512x2048_S1x512x2048_0_0_0]

/-- The scores that the run computes from what it reads, as `tile`. -/
theorem tile_of_reads (i : grid0.Coords) (h3 : k0_cond3 i = 1#1) (a3 : Memref sig .tc .vmem S3x512x2048 .fp8e4m3)
    (a4 : Memref sig .tc .vmem S1x512 .f32) (a5 : Memref sig .tc .vmem S512x1 .f32) (a6 : Memref sig .tc .vmem S1x1 .f32)
    (f3 : a3.view.ty.Contents (Elt F)) (f4 : a4.view.ty.Contents (Elt F)) (f5 : a5.view.ty.Contents (Elt F)) (f6 : a6.view.ty.Contents (Elt F))
    (f8 : scM.view.ty.Contents (Elt F)) (w : FVec F S3x512x2048 .fp8e4m3) (b : FVec F S1x512 .f32) (l : FVec F S512x1 .f32)
    (bl : FVec F S1x1 .f32) (s : FVec F S2112x2048 .fp8e4m3)
    (e3 : a3.view.read (Elt F) f3 = w) (e4 : a4.view.read (Elt F) f4 = b) (e5 : a5.view.read (Elt F) f5 = l)
    (e6 : a6.view.read (Elt F) f6 = bl) (e8 : scM.view.read (Elt F) f8 = s) :
    k0_pay5 (scM.view.readAt (Elt F) (Rect.unit (s := S2112x2048) (k0_off2 i) S576x2048.size (k0_off2_inb i h3)).toLoadRect f8)
        (a3.view.readAt (Elt F) (Rect.unit (s := S3x512x2048) ![0, 0, 0] S1x512x2048.size inb_S3x512x2048_S1x512x2048_0_0_0).toLoadRect f3)
        (a3.view.readAt (Elt F) (Rect.unit (s := S3x512x2048) ![1, 0, 0] S1x512x2048.size inb_S3x512x2048_S1x512x2048_1_0_0).toLoadRect f3)
        (a3.view.readAt (Elt F) (Rect.unit (s := S3x512x2048) ![2, 0, 0] S1x512x2048.size inb_S3x512x2048_S1x512x2048_2_0_0).toLoadRect f3)
        (a4.view.readAt (Elt F) (Rect.unit (s := S1x512) ![0, 0] S1x512.size inb_S1x512_S1x512_0_0).toLoadRect f4)
        (a5.view.readAt (Elt F) (Rect.unit (s := S512x1) ![0, 0] S512x1.size inb_S512x1_S512x1_0_0).toLoadRect f5)
        (a6.view.readAt (Elt F) (Rect.unit (s := S1x1) ![0, 0] S1x1.size inb_S1x1_S1x1_0_0).toLoadRect f6)
      = tile i h3 w b l bl s := by
  subst e3 e8
  unfold tile
  rw [show a4.view.readAt (Elt F) (Rect.unit (s := S1x512) ![0, 0] S1x512.size inb_S1x512_S1x512_0_0).toLoadRect f4 = b from
      (View.readAt_full a4.view f4 _).trans e4,
    show a5.view.readAt (Elt F) (Rect.unit (s := S512x1) ![0, 0] S512x1.size inb_S512x1_S512x1_0_0).toLoadRect f5 = l from
      (View.readAt_full a5.view f5 _).trans e5,
    show a6.view.readAt (Elt F) (Rect.unit (s := S1x1) ![0, 0] S1x1.size inb_S1x1_S1x1_0_0).toLoadRect f6 = bl from
      (View.readAt_full a6.view f6 _).trans e6]
  rfl

/-- The seven operands of the kernel, each held whole at given contents. -/
def held (c : Dev nD) (a2 : Memref sig .tc .vmem S1x512x2048 .f32) (a3 : Memref sig .tc .vmem S3x512x2048 .fp8e4m3)
    (a4 : Memref sig .tc .vmem S1x512 .f32) (a5 : Memref sig .tc .vmem S512x1 .f32) (a6 : Memref sig .tc .vmem S1x1 .f32)
    (a7 : Memref sig .tc .vmem S1x2048x1 .f32)
    (x : FVec F S1x512x2048 .f32) (w : FVec F S3x512x2048 .fp8e4m3) (b : FVec F S1x512 .f32) (l : FVec F S512x1 .f32) (bl : FVec F S1x1 .f32)
    (y : FVec F S1x2048x1 .f32) (s : FVec F S2112x2048 .fp8e4m3) : sProp 𝕄 :=
  iprop(owns (c : Thread nD τ) a2 fullShare x ∗ owns (c : Thread nD τ) a3 fullShare w ∗ owns (c : Thread nD τ) a4 fullShare b
    ∗ owns (c : Thread nD τ) a5 fullShare l ∗ owns (c : Thread nD τ) a6 fullShare bl ∗ owns (c : Thread nD τ) a7 fullShare y
    ∗ owns (c : Thread nD τ) scM fullShare s)

/-- At a sample's first point the scratch is opened and the sample's first block copied in; the result's block is left as it was. -/
theorem first (c : Dev nD) (i : grid0.Coords) (h1 : opens i) (h2 : k0_cond2 i = 1#1) (h3 : ¬ k0_cond3 i = 1#1)
    (a2 : Memref sig .tc .vmem S1x512x2048 .f32) (ha2 : a2.IsWhole) (a3 : Memref sig .tc .vmem S3x512x2048 .fp8e4m3) (ha3 : a3.IsWhole)
    (a4 : Memref sig .tc .vmem S1x512 .f32) (ha4 : a4.IsWhole) (a5 : Memref sig .tc .vmem S512x1 .f32) (ha5 : a5.IsWhole)
    (a6 : Memref sig .tc .vmem S1x1 .f32) (ha6 : a6.IsWhole) (a7 : Memref sig .tc .vmem S1x2048x1 .f32) (ha7 : a7.IsWhole)
    (x : FVec F S1x512x2048 .f32) (w : FVec F S3x512x2048 .fp8e4m3) (b : FVec F S1x512 .f32) (l : FVec F S512x1 .f32) (bl : FVec F S1x1 .f32)
    (y : FVec F S1x2048x1 .f32) (s : FVec F S2112x2048 .fp8e4m3)
    (K : PUnit → sProp 𝕄) :
    iprop(held c a2 a3 a4 a5 a6 a7 x w b l bl y s
        ∗ (held c a2 a3 a4 a5 a6 a7 x w b l bl y (placed i x (opened s)) -∗ K ⟨⟩))
      ⊢ wp frame (wpE (defs₀ (F := F)) Variants.none c none) Set.univ
          (cc0__rapn_kernel i a2 ha2 a3 ha3 a4 ha4 a5 ha5 a6 ha6 a7 ha7 scM (Memref.isWhole_whole _)) K := by
  simp only [cc0__rapn_kernel_eq_skeleton]; unfold cc0__rapn_kernel_skel; simp only [k0_part1_eq_skeleton]; unfold k0_part1_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec
  sl_step
  iapply Hk
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists _; isplitr; swap; · iexact H7
    ipureintro
    exact e7
  · iexists _; isplitr; swap; · iexact H8
    ipureintro
    rw [View.read_writes_cons_put _ _ _ _ _ rfl, View.read_writes_cons_put _ _ _ _ _ rfl, View.read_writes_cons_put _ _ _ _ _ rfl,
      View.writes_nil, e8]
    unfold placed opened
    rw [← e2, ← View.readAt_full a2.view f2 inb_S1x512x2048_S1x512x2048_0_0_0]

/-- At a middle point the next block is copied in and the tile before it scored. -/
theorem mid (c : Dev nD) (i : grid0.Coords) (h1 : ¬ opens i) (h2 : k0_cond2 i = 1#1) (h3 : k0_cond3 i = 1#1)
    (a2 : Memref sig .tc .vmem S1x512x2048 .f32) (ha2 : a2.IsWhole) (a3 : Memref sig .tc .vmem S3x512x2048 .fp8e4m3) (ha3 : a3.IsWhole)
    (a4 : Memref sig .tc .vmem S1x512 .f32) (ha4 : a4.IsWhole) (a5 : Memref sig .tc .vmem S512x1 .f32) (ha5 : a5.IsWhole)
    (a6 : Memref sig .tc .vmem S1x1 .f32) (ha6 : a6.IsWhole) (a7 : Memref sig .tc .vmem S1x2048x1 .f32) (ha7 : a7.IsWhole)
    (x : FVec F S1x512x2048 .f32) (w : FVec F S3x512x2048 .fp8e4m3) (b : FVec F S1x512 .f32) (l : FVec F S512x1 .f32) (bl : FVec F S1x1 .f32)
    (y : FVec F S1x2048x1 .f32) (s : FVec F S2112x2048 .fp8e4m3)
    (K : PUnit → sProp 𝕄) :
    iprop(held c a2 a3 a4 a5 a6 a7 x w b l bl y s
        ∗ (held c a2 a3 a4 a5 a6 a7 x w b l bl (filled i y (tile i h3 w b l bl (placed i x s))) (placed i x s) -∗ K ⟨⟩))
      ⊢ wp frame (wpE (defs₀ (F := F)) Variants.none c none) Set.univ
          (cc0__rapn_kernel i a2 ha2 a3 ha3 a4 ha4 a5 ha5 a6 ha6 a7 ha7 scM (Memref.isWhole_whole _)) K := by
  simp only [cc0__rapn_kernel_eq_skeleton]; unfold cc0__rapn_kernel_skel; simp only [k0_part1_eq_skeleton]; unfold k0_part1_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec
  sl_step
  iapply Hk
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists _; isplitr; swap; · iexact H7
    ipureintro
    rw [View.read_writes_cons_put _ _ _ _ _ rfl, View.writes_nil, e7]
    unfold filled
    refine congrArg (fun v => VecWindow.put y (k0_off3 i) S1x512x1.size (k0_pay4 v)) ?_
    exact tile_of_reads i h3 a3 a4 a5 a6 f3 f4 f5 f6 _ w b l bl _ e3 e4 e5 e6 (placed_of_reads i h2 a2 f2 f8 x s e2 e8)
  · iexists _; isplitr; swap; · iexact H8
    ipureintro
    exact placed_of_reads i h2 a2 f2 f8 x s e2 e8

/-- At a sample's last point the last tile is scored; the scratch is only read. -/
theorem last (c : Dev nD) (i : grid0.Coords) (h1 : ¬ opens i) (h2 : ¬ k0_cond2 i = 1#1) (h3 : k0_cond3 i = 1#1)
    (a2 : Memref sig .tc .vmem S1x512x2048 .f32) (ha2 : a2.IsWhole) (a3 : Memref sig .tc .vmem S3x512x2048 .fp8e4m3) (ha3 : a3.IsWhole)
    (a4 : Memref sig .tc .vmem S1x512 .f32) (ha4 : a4.IsWhole) (a5 : Memref sig .tc .vmem S512x1 .f32) (ha5 : a5.IsWhole)
    (a6 : Memref sig .tc .vmem S1x1 .f32) (ha6 : a6.IsWhole) (a7 : Memref sig .tc .vmem S1x2048x1 .f32) (ha7 : a7.IsWhole)
    (x : FVec F S1x512x2048 .f32) (w : FVec F S3x512x2048 .fp8e4m3) (b : FVec F S1x512 .f32) (l : FVec F S512x1 .f32) (bl : FVec F S1x1 .f32)
    (y : FVec F S1x2048x1 .f32) (s : FVec F S2112x2048 .fp8e4m3)
    (K : PUnit → sProp 𝕄) :
    iprop(held c a2 a3 a4 a5 a6 a7 x w b l bl y s
        ∗ (held c a2 a3 a4 a5 a6 a7 x w b l bl (filled i y (tile i h3 w b l bl s)) s -∗ K ⟨⟩))
      ⊢ wp frame (wpE (defs₀ (F := F)) Variants.none c none) Set.univ
          (cc0__rapn_kernel i a2 ha2 a3 ha3 a4 ha4 a5 ha5 a6 ha6 a7 ha7 scM (Memref.isWhole_whole _)) K := by
  simp only [cc0__rapn_kernel_eq_skeleton]; unfold cc0__rapn_kernel_skel; simp only [k0_part1_eq_skeleton]; unfold k0_part1_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec
  sl_step
  iapply Hk
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists _; isplitr; swap; · iexact H7
    ipureintro
    rw [View.read_writes_cons_put _ _ _ _ _ rfl, View.writes_nil, e7]
    unfold filled
    refine congrArg (fun v => VecWindow.put y (k0_off3 i) S1x512x1.size (k0_pay4 v)) ?_
    exact tile_of_reads i h3 a3 a4 a5 a6 f3 f4 f5 f6 _ w b l bl _ e3 e4 e5 e6 e8
  · iexists _; isplitr; swap; · iexact H8
    ipureintro
    exact e8

/-! ## Which case each point is -/

/-- A sample's first point opens it, its three middle ones copy and score, its last only scores. -/
theorem kinds : ∀ t : Fin grid0.N,
    (t.val % 5 = 0 ∧ opens (grid0.coords t) ∧ k0_cond2 (grid0.coords t) = 1#1 ∧ ¬ k0_cond3 (grid0.coords t) = 1#1)
    ∨ ((1 ≤ t.val % 5 ∧ t.val % 5 ≤ 3) ∧ ¬ opens (grid0.coords t) ∧ k0_cond2 (grid0.coords t) = 1#1 ∧ k0_cond3 (grid0.coords t) = 1#1)
    ∨ (t.val % 5 = 4 ∧ ¬ opens (grid0.coords t) ∧ ¬ k0_cond2 (grid0.coords t) = 1#1 ∧ k0_cond3 (grid0.coords t) = 1#1) := by decide +kernel

/-- The body table's row at a point is the kernel on the point's staging buffers. -/
theorem defs₀_row (t : Fin cfg0.N) : defs₀ (F := F) .tc cfg0.body (cfg0.bodyArgs t (cfg0.slots t)) = bodyAt0 t := by
  unfold defs₀; rw [Defs.onTc_tc]

end Cert.KernelIdeal.Run

end
-- ==== Proof.KernelIdealLaunch.lean ====
module

public import proofs.«01_k».proof.Proof.KernelIdealRun
public import Idealize.ShloMosaic.Lib.Pipeline.FrameBody
public import Idealize.ShloMosaic.Lib.Pipeline.FrameSuffix

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] [∀ e, Nonempty (Elt F e)]

local notation "𝕄" => MT nD τ sig Unit (Elt F) ℕ (UR sig nD τ) ℕ

/-- What the windows' arrays hold on one core. -/
abbrev Arrays (F : FTy → Type) [FloatOps F] (c : Dev nD) : Type :=
  (w : Fin cfg0.W) → Buf (Elt F) ((spec0 w).arr.view.loc (c : Thread nD τ))

variable (m : (ℓ : Loc nD τ sig) → Buf (Elt F) ℓ) (ρ : Dev nD → PrngReg)

/-- What a buffer holds when @main has ended, the windows' arrays left at `A` by the region. -/
def atEnd (c : Dev nD) (A : Arrays F c) (b : Ref sig .tc) : Buf (Elt F) ((c : Thread nD τ).loc b) :=
  StableHlo.after (List.flatten [hostOps1]) (Pipeline.withArrays spec0 c (V0 m c) A) (Proc.devRef .tc b)

section Region

variable (rd : (c : Dev nD) → RDat τ (Elt F) Unit ℕ (UR sig nD τ) ℕ cfg0 c)

/-- The region's arrays, held at contents they may have after the last write-back, are held at the only contents that they may have. -/
theorem arrays_named (c : Dev nD) (A : Arrays F c) (hone : ∀ B : Arrays F c, (∀ w, (rd c).ArrAt w cfg0.N (B w)) → B = A) :
    ((rd c).arraysAt cfg0.N : sProp 𝕄) ⊢ iprop(⌜∀ w, (rd c).ArrAt w cfg0.N (A w)⌝ ∗ (rd c).arrays A) := by
  unfold RDat.arraysAt
  iintro H
  ihave H' := (BI.bigSep_exists_pi Finset.univ (fun w B => iprop(⌜(rd c).ArrAt w cfg0.N B⌝
      ∗ (cfg0.win w).arr.view.loc (c : Thread nD τ) ↦[(cfg0.win w).arr.view.set]{(rd c).share w} B))) $$ H
  icases H' with ⟨%B, H⟩
  ihave H2 := (BI.bigSep_pure_sep Finset.univ (fun w => (rd c).ArrAt w cfg0.N (B w))
      (fun w => (cfg0.win w).arr.view.loc (c : Thread nD τ) ↦[(cfg0.win w).arr.view.set]{(rd c).share w} B w)) $$ H
  icases H2 with ⟨%hB, H⟩
  have hB' : ∀ w, (rd c).ArrAt w cfg0.N (B w) := fun w => hB w (Finset.mem_univ w)
  obtain rfl := hone B hB'
  isplitr; · ipureintro; exact hB'
  unfold RDat.arrays
  iexact H

/-- The converse. -/
theorem arrays_unnamed (c : Dev nD) (A : Arrays F c) (hA : ∀ w, (rd c).ArrAt w cfg0.N (A w)) :
    ((rd c).arrays A : sProp 𝕄) ⊢ (rd c).arraysAt cfg0.N := by
  unfold RDat.arraysAt RDat.arrays
  refine BI.bigSep_mono fun w _ => ?_
  show ((cfg0.win w).arr.view.loc (c : Thread nD τ) ↦[(cfg0.win w).arr.view.set]{(rd c).share w} A w : sProp 𝕄)
    ⊢ iprop(∃ B, ⌜(rd c).ArrAt w cfg0.N B⌝ ∗ (cfg0.win w).arr.view.loc (c : Thread nD τ) ↦[(cfg0.win w).arr.view.set]{(rd c).share w} B)
  iintro H; iexists (A w); isplitr; · ipureintro; exact hA w
  iexact H

/-- The whole run, for proof data whose relation leaves one choice only for what the arrays hold at the region's end: every buffer ends
    as the lines after the region leave it. -/
theorem run_named (A : (c : Dev nD) → Arrays F c)
    (hone : ∀ c (B : Arrays F c), (∀ w, (rd c).ArrAt w cfg0.N (B w)) → B = A c)
    (hbody : ∀ c, (rd c).BodyObligation (defs₀ (F := F)) Variants.none () Set.univ)
    (hshare : ∀ c w, (rd c).share w = fullShare) (howed : ∀ c t, (rd c).owed t = 0)
    (hA : ∀ c w, (rd c).A w = V m c (Pipeline.arrRef spec0 w))
    (hin : ∀ c, (Pipeline.ΦA spec0 c : sProp 𝕄) ⊢ (rd c).Φ 0)
    (hout : ∀ c, (rd c).Φ (Fin.last cfg0.N) ⊢ Pipeline.ΦA spec0 c) :
    θ_run defs (onTc (τ := τ) (main (F := F))) (s₀ m ρ)
      (fun r => (∀ c : Dev nD, (∀ w, r.2.mem ((spec0 w).arr.view.loc (c : Thread nD τ)) = A c w)
        ∧ ∀ b ∈ Pipeline.restRefs sig spec0, r.2.mem ((c : Thread nD τ).loc b) = atEnd m c (A c) b) ∧ r.2.sem = fun _ => 0) := by
  classical
  have kit : Pipeline.PLaunchFacts₀ (nD := nD) (τ := τ) (pcfgs (F := F)) 0 := launch0.toP.to₀
  have hq : ∀ c w, (spec0 w).isOut = false → (rd c).q w = Pipeline.shareOf spec0 w := fun c w hw =>
    (rd c).q_eq_shareOf_of_share_full launch0.win.arr_inj (hshare c) w hw
  let one : (p : Fin 1) → (pcfgs (F := F) p).Adm := fun q => (cfgs q).toPCfg_adm
  have hself : ∀ c, RDat.familyOf (pcfgs (F := F)) one 0 rd 0 c = rd c := fun c => RDat.familyOf_self _ _ _ _ c
  exact RDat.θ_run_region_pf_tail_quiescent (pcfgs (F := F)) one (RDat.familyOf (pcfgs (F := F)) one 0 rd) () (kit.cellOf_inj one) 0
    kit.win (Pipeline.OwnSemFacts.none spec0) kit.pre emb₁ defs₀ Variants.none m ρ main
    (fun _ => Pipeline.chain ([hostOps1].map StableHlo.seq)) (fun c => by rw [hself]; exact hbody c)
    kit.block_pos kit.arr_whole kit.stage_whole (fun c t => by rw [hself]; exact howed c t)
    (G := fun _ => iprop(emp))
    (u₀ := initOf (Pipeline.cells (Pipeline.pin pcfgs one) (kit.cellOf_inj one)) (Pipeline.launchToks (Pipeline.pin pcfgs one) (kit.cellOf_inj one)))
    (hu₀ := by
      iintro Hu; imodintro
      isplitl [Hu]
      · iapply (show (ownU _ : sProp 𝕄) ⊢ BI.own (emb₁ (initOf (Pipeline.cells (Pipeline.pin pcfgs one) (kit.cellOf_inj one))
          (Pipeline.launchToks (Pipeline.pin pcfgs one) (kit.cellOf_inj one)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [hself]; exact (rd c).arrays_split_shared kit.sharedIn kit.arr_whole (hq c) (V m c) _ (hA c))
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (atEnd m c (A c)))
    (hX := fun c => by
      iintro ⟨HU, -, -, Hp, -⟩; imodintro
      isplitl [Hp]; · iexists _; iexact Hp
      iexact HU)
    (hin := fun c => by
      rw [hself]
      refine BIBase.Entails.trans ?_ (hin c)
      unfold Pipeline.ΦA
      iintro ⟨Hp, -, Hr⟩
      isplitl [Hr] <;> iassumption)
    (hout := fun c => by
      rw [hself]
      refine (hout c).trans ?_
      rw [Pipeline.ownSems0_none]; unfold Pipeline.ΦA
      iintro ⟨Hr, Hp⟩
      isplitl [Hp]; · iexact Hp
      isplitr; · iempintro
      iexact Hr)
    (htail := fun c Q' => by
      rw [hself]
      have hB : ∀ hA' : (∀ w, (rd c).ArrAt w cfg0.N (A c w)), (rd c).arrays (A c)
          = Pipeline.arrBufs spec0 c (fun b => Pipeline.withArrays spec0 c (V0 m c) (A c) (Proc.devRef .tc b)) := fun hA' =>
        ((rd c).arrBufs_eq_arrays kit.sharedIn kit.arr_whole (hq c) _ (A c) fun w =>
          (Pipeline.withArrays_arr spec0 launch0.win.arr_inj c (V0 m c) (A c) w).symm).symm
      iintro ⟨Hk, Hb, Ha, HZ⟩
      ihave Ha' := (arrays_named rd c (A c) (hone c)) $$ Ha
      icases Ha' with ⟨%hA', Ha⟩
      iapply (Pipeline.tail_seqs_bufs_b pcfgs defs₀ Variants.none Pipeline.Prefetch.none spec0 c (V0 m c) (A c) [hostOps1]
        sfx_sub sfx_fresh sfx_keeps Q')
      isplitl [Hk]
      · iintro ⟨Hb2, Ha2, Hu⟩
        iapply Hk
        isplitl [Hb2]; · iexact Hb2
        isplitl [Ha2]
        · iapply (arrays_unnamed rd c (A c) hA'); iapply (Entails.of_eq (hB hA').symm); iexact Ha2
        iexact Hu
      · isplitl [Hb]; · iexact Hb
        isplitl [Ha]; · iapply (Entails.of_eq (hB hA')); iexact Ha
        iexact HZ)
    (QY := fun c s => ∀ b ∈ Pipeline.restRefsP sig Pipeline.Prefetch.none spec0, s.mem ((c : Thread nD τ).loc b) = atEnd m c (A c) b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (atEnd m c (A c)) s')
      isplitl [HU] <;> iassumption)
    (hQ := fun s h hz => ⟨fun c => ⟨fun w => by
        have h1 := hone c (fun w => s.mem ((spec0 w).arr.view.loc (c : Thread nD τ))) (fun w => by simpa only [hself] using (h c).1 w)
        exact congrFun h1 w,
      fun b hb => (h c).2.2 b (Finset.mem_sdiff.mpr ⟨hb, fun h0 => by
        obtain ⟨k, -, -⟩ := Finset.mem_image.mp h0
        exact k.elim0⟩)⟩, hz⟩)

end Region

end Cert.KernelIdeal.Run

end
-- ==== Proof.KernelIdealTrack.lean ====
module

public import proofs.«01_k».proof.Proof.KernelIdealLaunch
public import Idealize.ShloMosaic.Lib.Pipeline.ArrRel
public import Idealize.ShloMosaic.Lib.Pointwise.Index

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## Offsets at a point -/

theorem off1_pt : ∀ t : Fin grid0.N, k0_off1 (grid0.coords t) = ![512 * (t.val % 5) + 32, 0] := by decide +kernel
theorem off2_pt : ∀ t : Fin grid0.N, t.val % 5 ≠ 0 → k0_off2 (grid0.coords t) = ![512 * (t.val % 5 - 1), 0] := by decide +kernel
theorem off3_pt : ∀ t : Fin grid0.N, t.val % 5 ≠ 0 → k0_off3 (grid0.coords t) = ![0, 512 * (t.val % 5 - 1), 0] := by decide +kernel
theorem scores_pt : ∀ t : Fin grid0.N, t.val % 5 ≠ 0 → k0_cond3 (grid0.coords t) = 1#1 := by decide +kernel

/-- The grid point of a number. -/
abbrev pt (n : ℕ) : Fin grid0.N := ⟨n % 10, by rw [N_0]; exact Nat.mod_lt _ (by decide)⟩
theorem pt_self (t : Fin grid0.N) (n : ℕ) (h : n = t.val) : pt n = t := Fin.ext (by
  have h10 : t.val < 10 := lt_of_lt_of_eq t.isLt N_0
  show n % 10 = t.val; omega)

/-! ## What the scratch and the result's block are to hold -/

/-- A sample with 32 rows of zeros before and after it: what the scratch holds once all of the sample is copied in. -/
def padded (c : Dev nD) (b : ℕ) : FVec F S2112x2048 .fp8e4m3 := fun p =>
  if h : 32 ≤ (p 0).val ∧ (p 0).val < 2080 then
    k0_pay3 (iblk m c 0 (pt (5 * b + ((p 0).val - 32) / 512))) (ix2 ⟨((p 0).val - 32) % 512, Nat.mod_lt _ (by decide)⟩ (p 1))
  else if h' : (p 0).val < 32 then k0_pay1 (F := F) (ix2 ⟨(p 0).val, h'⟩ (p 1))
  else k0_pay2 (F := F) (ix2 ⟨(p 0).val - 2080, by have h12 : (p 0).val < 2112 := (p 0).isLt; omega⟩ (p 1))

/-- The 512 scores that a point computes from the whole padded sample. -/
def scoresAt (c : Dev nD) (t : Fin grid0.N) (ht : t.val % 5 ≠ 0) : FVec F S512x1 .f32 :=
  tile (grid0.coords t) (scores_pt t ht) (iblk m c 1 t) (iblk m c 2 t) (iblk m c 3 t) (iblk m c 4 t) (padded m c (t.val / 5))

/-- A sample's 2048 scores: row `r` is scored at the sample's point number `r / 512 + 1`. -/
def scores (c : Dev nD) (b : ℕ) : FVec F S1x2048x1 .f32 := fun p =>
  k0_pay4 (scoresAt m c (pt (5 * b + (p 1).val / 512 + 1)) (by
    have : (p 1).val < 2048 := (p 1).isLt
    show (5 * b + (p 1).val / 512 + 1) % 10 % 5 ≠ 0
    omega)) (ix3 (p 0) ⟨(p 1).val % 512, Nat.mod_lt _ (by decide)⟩ (p 2))

/-- The scratch before point number `n`: nothing is known at a sample's first point; later the rows copied so far are in place. -/
def Copied (c : Dev nD) (n : ℕ) (s : FVec F S2112x2048 .fp8e4m3) : Prop :=
  n % 5 ≠ 0 → ∀ p : S2112x2048.Idx, ((p 0).val < 32 + 512 * (n % 5) ∨ 2080 ≤ (p 0).val) → s p = padded m c (n / 5) p

/-- The result's block after point `t`: the rows of the tiles scored so far. -/
def Scored (c : Dev nD) (t : Fin grid0.N) (y : FVec F S1x2048x1 .f32) : Prop :=
  ∀ p : S1x2048x1.Idx, (p 1).val < 512 * (t.val % 5) → y p = scores m c (t.val / 5) p

/-- Copying a block in extends what is in place. -/
theorem copied_placed (c : Dev nD) (t : Fin grid0.N) (ht : t.val % 5 ≤ 3) (s : FVec F S2112x2048 .fp8e4m3)
    (hs : ∀ p : S2112x2048.Idx, ((p 0).val < 32 + 512 * (t.val % 5) ∨ 2080 ≤ (p 0).val) → s p = padded m c (t.val / 5) p)
    (p : S2112x2048.Idx) (hp : (p 0).val < 32 + 512 * (t.val % 5 + 1) ∨ 2080 ≤ (p 0).val) :
    placed (grid0.coords t) (iblk m c 0 t) s p = padded m c (t.val / 5) p := by
  have h1 : (p 1).val < 2048 := (p 1).isLt
  unfold placed
  rw [off1_pt]
  unfold VecWindow.put
  by_cases h : ∀ a, (![512 * (t.val % 5) + 32, 0] : Fin 2 → ℕ) a ≤ (p a).val ∧ (p a).val < (![512 * (t.val % 5) + 32, 0] : Fin 2 → ℕ) a + S512x2048.size a
  · rw [dif_pos h]
    have h0 : 512 * (t.val % 5) + 32 ≤ (p 0).val ∧ (p 0).val < 512 * (t.val % 5) + 32 + 512 := h 0
    unfold padded
    rw [dif_pos ⟨by omega, by omega⟩, pt_self t _ (by omega)]
    refine congrArg (k0_pay3 (iblk m c 0 t)) (funext fun a => ?_)
    match a with
    | ⟨0, _⟩ => exact Fin.ext (by show (p 0).val - (512 * (t.val % 5) + 32) = ((p 0).val - 32) % 512; omega)
    | ⟨1, _⟩ => exact Fin.ext (by show (p 1).val - 0 = (p 1).val; omega)
  · rw [dif_neg h]
    refine hs p ?_
    by_contra hc
    refine h fun a => ?_
    match a with
    | ⟨0, _⟩ => exact ⟨by show 512 * (t.val % 5) + 32 ≤ (p 0).val; omega, by show (p 0).val < 512 * (t.val % 5) + 32 + 512; omega⟩
    | ⟨1, _⟩ => exact ⟨Nat.zero_le _, by show (p 1).val < 0 + 2048; omega⟩

/-- A sample's opening puts the rows of zeros in place. -/
theorem copied_opened (c : Dev nD) (b : ℕ) (s : FVec F S2112x2048 .fp8e4m3)
    (p : S2112x2048.Idx) (hp : (p 0).val < 32 ∨ 2080 ≤ (p 0).val) : opened s p = padded m c b p := by
  have h1 : (p 1).val < 2048 := (p 1).isLt
  have h0 : (p 0).val < 2112 := (p 0).isLt
  unfold opened padded
  rw [dif_neg (by omega)]
  rcases hp with hp | hp
  · rw [dif_pos hp]
    unfold VecWindow.put
    rw [dif_neg (fun h => by have h2 : 2080 ≤ (p 0).val := (h 0).1; omega), dif_pos (fun a => by
      match a with
      | ⟨0, _⟩ => exact ⟨Nat.zero_le _, by show (p 0).val < 0 + 32; omega⟩
      | ⟨1, _⟩ => exact ⟨Nat.zero_le _, by show (p 1).val < 0 + 2048; omega⟩)]
    exact congrArg (k0_pay1 (F := F)) (funext fun a => by
      match a with
      | ⟨0, _⟩ => exact Fin.ext (Nat.sub_zero _)
      | ⟨1, _⟩ => exact Fin.ext (Nat.sub_zero _))
  · rw [dif_neg (by omega)]
    unfold VecWindow.put
    rw [dif_pos (fun a => by
      match a with
      | ⟨0, _⟩ => exact ⟨hp, by show (p 0).val < 2080 + 32; omega⟩
      | ⟨1, _⟩ => exact ⟨Nat.zero_le _, by show (p 1).val < 0 + 2048; omega⟩)]
    exact congrArg (k0_pay2 (F := F)) (funext fun a => by
      match a with
      | ⟨0, _⟩ => rfl
      | ⟨1, _⟩ => exact Fin.ext (Nat.sub_zero _))

/-- Arrays that agree inside a window have the same window. -/
theorem window_congr {α : Type} {s : Shape} (x y : s.Idx → α) (off size : Fin s.rank → ℕ) (inb : ∀ a, off a + size a ≤ s.size a)
    (h : ∀ p : s.Idx, (∀ a, off a ≤ (p a).val ∧ (p a).val < off a + size a) → x p = y p) :
    VecWindow.window x off size inb = VecWindow.window y off size inb :=
  funext fun q => h _ fun a => by
    have e : ((Rect.unit off size inb).emb q a).val = off a + 1 * (q a).val := rfl
    have hq : (q a).val < size a := (q a).isLt
    omega

/-- A tile's scores are those of the whole sample as soon as the rows that the tile reads are in place. -/
theorem tile_copied (c : Dev nD) (t : Fin grid0.N) (ht : t.val % 5 ≠ 0) (s : FVec F S2112x2048 .fp8e4m3)
    (hs : ∀ p : S2112x2048.Idx, ((p 0).val < 32 + 512 * (t.val % 5 + 1) ∨ 2080 ≤ (p 0).val) → s p = padded m c (t.val / 5) p) :
    tile (grid0.coords t) (scores_pt t ht) (iblk m c 1 t) (iblk m c 2 t) (iblk m c 3 t) (iblk m c 4 t) s = scoresAt m c t ht := by
  unfold scoresAt tile
  have e : VecWindow.window s (k0_off2 (grid0.coords t)) S576x2048.size (k0_off2_inb _ (scores_pt t ht))
      = VecWindow.window (padded m c (t.val / 5)) (k0_off2 (grid0.coords t)) S576x2048.size (k0_off2_inb _ (scores_pt t ht)) := by
    refine window_congr _ _ _ _ _ fun p hp => hs p (Or.inl ?_)
    have h0 := hp 0
    rw [off2_pt t ht] at h0
    have h1 : (p 0).val < 512 * (t.val % 5 - 1) + 576 := h0.2
    omega
  rw [e]

/-- A row's score, by the point that scores it. -/
theorem scores_eq (c : Dev nD) (b : ℕ) (t : Fin grid0.N) (ht : t.val % 5 ≠ 0) (p : S1x2048x1.Idx) (e : pt (5 * b + (p 1).val / 512 + 1) = t) :
    scores m c b p = k0_pay4 (scoresAt m c t ht) (ix3 (p 0) ⟨(p 1).val % 512, Nat.mod_lt _ (by decide)⟩ (p 2)) := by
  subst e; rfl

/-- Storing a tile's scores extends the rows scored. -/
theorem scored_filled (c : Dev nD) (t : Fin grid0.N) (ht : t.val % 5 ≠ 0) (y : FVec F S1x2048x1 .f32)
    (hy : ∀ p : S1x2048x1.Idx, (p 1).val < 512 * (t.val % 5 - 1) → y p = scores m c (t.val / 5) p) :
    Scored m c t (filled (grid0.coords t) y (scoresAt m c t ht)) := by
  intro p hp
  have h0 : (p 0).val < 1 := (p 0).isLt
  have h2 : (p 2).val < 1 := (p 2).isLt
  unfold filled
  rw [off3_pt t ht]
  unfold VecWindow.put
  by_cases h : 512 * (t.val % 5 - 1) ≤ (p 1).val
  · rw [dif_pos (fun a => by
      match a with
      | ⟨0, _⟩ => exact ⟨Nat.zero_le _, by show (p 0).val < 0 + 1; omega⟩
      | ⟨1, _⟩ => exact ⟨h, by show (p 1).val < 512 * (t.val % 5 - 1) + 512; omega⟩
      | ⟨2, _⟩ => exact ⟨Nat.zero_le _, by show (p 2).val < 0 + 1; omega⟩)]
    rw [scores_eq m c _ t ht p (pt_self t _ (by omega))]
    refine congrArg (k0_pay4 (scoresAt m c t ht)) (funext fun a => ?_)
    match a with
    | ⟨0, _⟩ => exact Fin.ext (Nat.sub_zero _)
    | ⟨1, _⟩ => exact Fin.ext (by show (p 1).val - 512 * (t.val % 5 - 1) = (p 1).val % 512; omega)
    | ⟨2, _⟩ => exact Fin.ext (Nat.sub_zero _)
  · rw [dif_neg (fun hc => h (hc 1).1)]
    exact hy p (by omega)

end Cert.KernelIdeal.Run

end
-- ==== Proof.KernelIdealTracked.lean ====
module

public import proofs.«01_k».proof.Proof.KernelIdealTrack

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## One point, tracked -/

/-- A point takes the scratch and the result's block from what the point before it left to what the next one is to find. -/
theorem tracked (c : Dev nD) (t : Fin grid0.N)
    (a2 : Memref sig .tc .vmem S1x512x2048 .f32) (ha2 : a2.IsWhole) (a3 : Memref sig .tc .vmem S3x512x2048 .fp8e4m3) (ha3 : a3.IsWhole)
    (a4 : Memref sig .tc .vmem S1x512 .f32) (ha4 : a4.IsWhole) (a5 : Memref sig .tc .vmem S512x1 .f32) (ha5 : a5.IsWhole)
    (a6 : Memref sig .tc .vmem S1x1 .f32) (ha6 : a6.IsWhole) (a7 : Memref sig .tc .vmem S1x2048x1 .f32) (ha7 : a7.IsWhole)
    (y : FVec F S1x2048x1 .f32) (s : FVec F S2112x2048 .fp8e4m3)
    (hs : Copied m c t.val s)
    (hy : t.val % 5 ≠ 0 → ∀ p : S1x2048x1.Idx, (p 1).val < 512 * (t.val % 5 - 1) → y p = scores m c (t.val / 5) p)
    (K : PUnit → sProp 𝕄) :
    iprop(held c a2 a3 a4 a5 a6 a7 (iblk m c 0 t) (iblk m c 1 t) (iblk m c 2 t) (iblk m c 3 t) (iblk m c 4 t) y s
        ∗ ((∃ y', ∃ s', ⌜Scored m c t y' ∧ Copied m c (t.val + 1) s'⌝
            ∗ held c a2 a3 a4 a5 a6 a7 (iblk m c 0 t) (iblk m c 1 t) (iblk m c 2 t) (iblk m c 3 t) (iblk m c 4 t) y' s') -∗ K ⟨⟩))
      ⊢ wp frame (wpE (defs₀ (F := F)) Variants.none c none) Set.univ
          (cc0__rapn_kernel (grid0.coords t) a2 ha2 a3 ha3 a4 ha4 a5 ha5 a6 ha6 a7 ha7 scM (Memref.isWhole_whole _)) K := by
  rcases kinds t with ⟨ht, h1, h2, h3⟩ | ⟨ht, h1, h2, h3⟩ | ⟨ht, h1, h2, h3⟩
  · have hc : Copied m c (t.val + 1) (placed (grid0.coords t) (iblk m c 0 t) (opened s)) := fun hn p hp => by
      rw [show (t.val + 1) / 5 = t.val / 5 by omega]
      exact copied_placed m c t (by omega) _ (fun q hq => copied_opened m c _ s q (by omega)) p (by omega)
    have hd : Scored m c t y := fun p hp => by omega
    iintro ⟨H, Hk⟩
    iapply (first c (grid0.coords t) h1 h2 h3 a2 ha2 a3 ha3 a4 ha4 a5 ha5 a6 ha6 a7 ha7 _ _ _ _ _ y s K)
    isplitl [H]; · iexact H
    iintro H; iapply Hk; iexists _; iexists _
    isplitr; · ipureintro; exact ⟨hd, hc⟩
    iexact H
  · have ht0 : t.val % 5 ≠ 0 := by omega
    have hp : ∀ p : S2112x2048.Idx, ((p 0).val < 32 + 512 * (t.val % 5 + 1) ∨ 2080 ≤ (p 0).val) →
        placed (grid0.coords t) (iblk m c 0 t) s p = padded m c (t.val / 5) p :=
      copied_placed m c t ht.2 s (hs ht0)
    have hc : Copied m c (t.val + 1) (placed (grid0.coords t) (iblk m c 0 t) s) := fun hn p hq => by
      rw [show (t.val + 1) / 5 = t.val / 5 by omega]
      exact hp p (by omega)
    have hd : Scored m c t (filled (grid0.coords t) y (tile (grid0.coords t) h3 (iblk m c 1 t) (iblk m c 2 t) (iblk m c 3 t) (iblk m c 4 t)
        (placed (grid0.coords t) (iblk m c 0 t) s))) := by
      rw [tile_copied m c t ht0 _ hp]
      exact scored_filled m c t ht0 y (hy ht0)
    iintro ⟨H, Hk⟩
    iapply (mid c (grid0.coords t) h1 h2 h3 a2 ha2 a3 ha3 a4 ha4 a5 ha5 a6 ha6 a7 ha7 _ _ _ _ _ y s K)
    isplitl [H]; · iexact H
    iintro H; iapply Hk; iexists _; iexists _
    isplitr; · ipureintro; exact ⟨hd, hc⟩
    iexact H
  · have ht0 : t.val % 5 ≠ 0 := by omega
    have hc : Copied m c (t.val + 1) s := fun hn => absurd (by omega) hn
    have hd : Scored m c t (filled (grid0.coords t) y (tile (grid0.coords t) h3 (iblk m c 1 t) (iblk m c 2 t) (iblk m c 3 t) (iblk m c 4 t) s)) := by
      rw [tile_copied m c t ht0 _ (fun p _ => hs ht0 p (by omega))]
      exact scored_filled m c t ht0 y (hy ht0)
    iintro ⟨H, Hk⟩
    iapply (last c (grid0.coords t) h1 h2 h3 a2 ha2 a3 ha3 a4 ha4 a5 ha5 a6 ha6 a7 ha7 _ _ _ _ _ y s K)
    isplitl [H]; · iexact H
    iintro H; iapply Hk; iexists _; iexists _
    isplitr; · ipureintro; exact ⟨hd, hc⟩
    iexact H

/-! ## The proof data -/

/-- The window held to a relation: the result's. -/
def unread : Fin cfg0.W → Bool := (![false, false, false, false, false, true] : Fin 6 → Bool)

/-- What the body leaves in the result's block at a point. -/
def Leave (c : Dev nD) (w : Fin cfg0.W) (t : Fin cfg0.N) (X : (cfg0.win w).block.Idx → Elt F (cfg0.win w).elt) : Prop :=
  match w, X with
  | ⟨5, _⟩, X => Scored m c t X
  | _, _ => True

/-- Between points: the scratch as copied so far, and the generator's register at some state. -/
def Between (c : Dev nD) (n : ℕ) : sProp 𝕄 :=
  iprop((∃ s, ⌜Copied m c n s⌝ ∗ owns (c : Thread nD τ) scM fullShare s) ∗ ∃ r, prngReg c r)

/-- The tracked run's proof data: inputs stay as fetched, a flushed result block holds its sample's scores. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => scores m c (t.val / 5)
  Φ n := Between m c n.val
  q _ := fullShare
  owed _ := 0

/-- The relational data of the run. -/
abbrev rdats (c : Dev nD) : RDat τ (Elt F) Unit ℕ (UR sig nD τ) ℕ cfg0 c := (dats m c).toRRel unread (Leave m c)

theorem A_eq (c : Dev nD) (w : Fin cfg0.W) : (dats m c).A w = V m c (Pipeline.arrRef spec0 w) := by dsimp only [dats]

theorem stays0 (c : Dev nD) (t d) : (dats m c).before 0 t d = iblk m c 0 t := before0_0_of m _ (A_eq m c 0) (fun _ => rfl) t d
theorem stays1 (c : Dev nD) (t d) : (dats m c).before 1 t d = iblk m c 1 t := before0_1_of m _ (A_eq m c 1) (fun _ => rfl) t d
theorem stays2 (c : Dev nD) (t d) : (dats m c).before 2 t d = iblk m c 2 t := before0_2_of m _ (A_eq m c 2) (fun _ => rfl) t d
theorem stays3 (c : Dev nD) (t d) : (dats m c).before 3 t d = iblk m c 3 t := before0_3_of m _ (A_eq m c 3) (fun _ => rfl) t d
theorem stays4 (c : Dev nD) (t d) : (dats m c).before 4 t d = iblk m c 4 t := before0_4_of m _ (A_eq m c 4) (fun _ => rfl) t d

theorem between_eq (c : Dev nD) :
    (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

/-- At the start nothing is asked of the scratch. -/
theorem enters (c : Dev nD) : (Pipeline.ΦA spec0 c : sProp 𝕄) ⊢ (rdats m c).Φ 0 := by
  show (Pipeline.ΦA spec0 c : sProp 𝕄) ⊢ Between m c 0
  rw [between_eq]; unfold Between
  iintro ⟨⟨%s, HS⟩, Hg⟩
  isplitl [HS]
  · iexists s; isplitr; · ipureintro; exact fun h => absurd rfl h
    iexact HS
  iexact Hg

/-- At the end the scratch is given up at whatever it holds. -/
theorem leaves (c : Dev nD) : ((rdats m c).Φ (Fin.last cfg0.N) : sProp 𝕄) ⊢ Pipeline.ΦA spec0 c := by
  show (Between m c _ : sProp 𝕄) ⊢ Pipeline.ΦA spec0 c
  rw [between_eq]; unfold Between
  iintro ⟨⟨%s, -, HS⟩, Hg⟩
  isplitl [HS]; · iexists s; iexact HS
  iexact Hg

/-- What a point finds in the result's block: the rows scored before it. -/
theorem found (c : Dev nD) (t : Fin cfg0.N) (y : FVec F S1x2048x1 .f32) (h : (rdats m c).Finds 5 t y) (ht : t.val % 5 ≠ 0)
    (p : S1x2048x1.Idx) (hp : (p 1).val < 512 * (t.val % 5 - 1)) : y p = scores m c (t.val / 5) p := by
  have ht0 : t.val ≠ 0 := fun h0 => ht (by rw [h0])
  have hf : (cfg0.win 5).fetch t = false := rfl
  rcases ((rdats m c).finds_of_pos hf ht0 y).mp h with hfl | hl
  · have := (flush0_5 ⟨t.val - 1, Nat.lt_of_le_of_lt (Nat.sub_le _ _) t.isLt⟩).mp hfl
    have e : (t.val - 1) % 5 = 4 := this
    omega
  · have hl' : Scored m c ⟨t.val - 1, Nat.lt_of_le_of_lt (Nat.sub_le _ _) t.isLt⟩ y := (dats m c).toRRel_leaves rfl hl
    have e := hl' p (by show (p 1).val < 512 * ((t.val - 1) % 5); omega)
    rw [e]
    show scores m c ((t.val - 1) / 5) p = _
    rw [show (t.val - 1) / 5 = t.val / 5 by omega]

/-- The body obligation of one point. -/
theorem onePoint (c : Dev nD) (t : Fin cfg0.N) :
    iprop((dats m c).Φ t.castSucc ∗ (dats m c).owesAt () t.castSucc
        ∗ (∃ d, owns (c : Thread nD τ) (st0_0 t) fullShare ((dats m c).before 0 t d))
        ∗ (∃ d, owns (c : Thread nD τ) (st0_1 t) fullShare ((dats m c).before 1 t d))
        ∗ (∃ d, owns (c : Thread nD τ) (st0_2 t) fullShare ((dats m c).before 2 t d))
        ∗ (∃ d, owns (c : Thread nD τ) (st0_3 t) fullShare ((dats m c).before 3 t d))
        ∗ (∃ d, owns (c : Thread nD τ) (st0_4 t) fullShare ((dats m c).before 4 t d))
        ∗ (∃ Y, ⌜(rdats m c).Finds 5 t Y⌝ ∗ owns (c : Thread nD τ) (st0_5 t) fullShare Y))
      ⊢ wp frame (wpE (defs₀ (F := F)) Variants.none c none) Set.univ (bodyAt0 t) (fun _ =>
        iprop((dats m c).Φ t.succ ∗ (dats m c).owesAt () t.succ
          ∗ owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (iblk m c 4 t)
          ∗ (∃ X, ⌜Scored m c t X⌝ ∗ owns (c : Thread nD τ) (st0_5 t) fullShare X))) := by
  simp only [stays0, stays1, stays2, stays3, stays4]
  rw [show (dats m c).Φ t.succ = Between m c (t.val + 1) from rfl,
    show (dats m c).owesAt () t.succ = (dats m c).owesAt () t.castSucc from rfl,
    show (dats m c).Φ t.castSucc = Between m c t.val from rfl]
  unfold Between
  iintro ⟨⟨⟨%s, %hs, HS⟩, Hg⟩, HO, ⟨%d0, H0⟩, ⟨%d1, H1⟩, ⟨%d2, H2⟩, ⟨%d3, H3⟩, ⟨%d4, H4⟩, ⟨%y, %hy, H5⟩⟩
  iapply (tracked m c t (st0_0 t) _ (st0_1 t) _ (st0_2 t) _ (st0_3 t) _ (st0_4 t) _ (st0_5 t) _ y s hs (found m c t y hy) _)
  unfold held
  isplitl [HS H0 H1 H2 H3 H4 H5]
  · isplitl [H0]; · iexact H0
    isplitl [H1]; · iexact H1
    isplitl [H2]; · iexact H2
    isplitl [H3]; · iexact H3
    isplitl [H4]; · iexact H4
    isplitl [H5]; · iexact H5
    iexact HS
  iintro ⟨%y', %s', %h, H0, H1, H2, H3, H4, H5, HS⟩
  isplitl [HS Hg]
  · isplitl [HS]
    · iexists s'; isplitr; · ipureintro; exact h.2
      iexact HS
    iexact Hg
  isplitl [HO]; · iexact HO
  isplitl [H0]; · iexact H0
  isplitl [H1]; · iexact H1
  isplitl [H2]; · iexact H2
  isplitl [H3]; · iexact H3
  isplitl [H4]; · iexact H4
  iexists y'; isplitr; · ipureintro; exact h.1
  iexact H5

/-- The body obligation, the result's window held to its relation. -/
theorem obligation (c : Dev nD) : BodyObligationRel (dats (F := F) m c) (defs₀ (F := F)) Variants.none () Set.univ unread (Leave m c) := fun t => by
  rw [bigSep_W0, bigSep_W0, defs₀_row]
  exact triple_restated (onePoint m c t) rfl .rfl fun _ => .rfl

/-- The data leave one choice for what the arrays hold at the end. -/
theorem oneEnd (c : Dev nD) (B : Arrays F c) (hB : ∀ w, (rdats m c).ArrAt w cfg0.N (B w)) :
    B = fun w => (dats m c).arrAt w cfg0.N := by
  have input : ∀ w : Fin cfg0.W, (spec0 w).isOut = false → B w = (dats m c).arrAt w cfg0.N := fun w hw => by
    have h := hB w
    rw [RDat.ArrAt_in _ w hw] at h
    rw [(dats m c).arrAt_in w hw]
    exact h
  funext w
  match w with
  | ⟨0, _⟩ => exact input 0 rfl
  | ⟨1, _⟩ => exact input 1 rfl
  | ⟨2, _⟩ => exact input 2 rfl
  | ⟨3, _⟩ => exact input 3 rfl
  | ⟨4, _⟩ => exact input 4 rfl
  | ⟨5, _⟩ =>
    obtain ⟨X, hX, hA⟩ := (hB 5).exists_exact
    refine hA (dats m c).after fun u hu hfu => ?_
    have hs : Scored m c u (X u) := (dats m c).toRRel_leaves rfl (hX u hu hfu)
    have h4 : u.val % 5 = 4 := (flush0_5 u).mp hfu
    refine funext fun p => (hs p ?_).symm
    have h1 : (p 1).val < 2048 := (p 1).isLt
    rw [h4]; omega

/-- The whole run: the arrays end as the exact data name them, every other buffer as the later lines leave it. -/
theorem run_tracked :
    θ_run defs (onTc (τ := τ) (main (F := F))) (s₀ m ρ)
      (fun r => (∀ c : Dev nD, (∀ w, r.2.mem ((spec0 w).arr.view.loc (c : Thread nD τ)) = (dats m c).arrAt w cfg0.N)
        ∧ ∀ b ∈ Pipeline.restRefs sig spec0, r.2.mem ((c : Thread nD τ).loc b) = atEnd m c (fun w => (dats m c).arrAt w cfg0.N) b)
        ∧ r.2.sem = fun _ => 0) :=
  run_named m ρ (rdats m) (fun c w => (dats m c).arrAt w cfg0.N) (oneEnd m) (fun c => (obligation m c).toRRel)
    (fun c => (dats m c).share_full fun _ => rfl) (fun _ _ => rfl) (A_eq m) (enters m) (leaves m)

end Cert.KernelIdeal.Run

end
-- ==== Proof.KernelIdealEnd.lean ====
module

public import proofs.«01_k».proof.Proof.KernelIdealTracked

@[expose] public section

noncomputable section

namespace Cert.KernelIdeal.Run

open Cert.KernelIdeal Cert.KernelIdeal.Gen
open Idealize.ShloMosaic Idealize.ShloMosaic.TcCoe
open Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

/-- A buffer that is neither the result nor a window's array ends as the region found it. -/
theorem atEnd_keeps (c : Dev nD) (A : Arrays F c) (b : Ref sig .tc) (h7 : b ≠ main_v7) (hw : ∀ w, Pipeline.arrRef spec0 w ≠ b) :
    atEnd m c A b = V m c b := by
  unfold atEnd
  refine (StableHlo.after_of_forall_not_mem (b := Proc.devRef .tc b) _ _ fun op hop => ?_).trans
    (Pipeline.withArrays_of_ne _ c (V0 m c) A b hw)
  have e : op ∈ (hostOps1 : List (HloOp τ sig (Elt F))) := by simpa using hop
  simp only [hostOps1, List.mem_cons, List.mem_nil_iff, or_false] at e
  subst e
  rw [StableHlo.reshape_writes, Finset.mem_singleton]
  exact StableHlo.devRef_ne_of_ne h7

/-- Every execution ends, with the result named, the arguments as launched and the counters at zero. -/
theorem run_named_result :
    θ_run defs (onTc (τ := τ) (main (F := F))) (s₀ m ρ) (fun r => (∀ c : Dev nD,
      r.2.mem ((c : Thread nD τ).loc main_v7) = atEnd m c (fun w => (dats m c).arrAt w cfg0.N) main_v7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) := by
  refine (θ_run defs _ _).mono (fun r h => ⟨fun c => ?_, h.2⟩) (run_tracked m ρ)
  obtain ⟨ha, hr⟩ := h.1 c
  have kept : ∀ b : Ref sig .tc, b ∈ Pipeline.restRefs sig spec0 → b ≠ main_v7 → (∀ w, Pipeline.arrRef spec0 w ≠ b) →
      r.2.mem ((c : Thread nD τ).loc b) = V m c b := fun b hb h7 hw => (hr b hb).trans (atEnd_keeps m c _ b h7 hw)
  refine ⟨hr main_v7 (Pipeline.mem_restRefs_of main_v7 (by decide) (by decide)), ?_, ?_, ?_, ?_, ?_, ?_, ?_⟩
  · exact (ha 0).trans (((dats m c).arrAt_in 0 rfl cfg0.N).trans ((A_eq m c 0).trans (V_main_arg0 m c)))
  · exact (kept main_arg1 (Pipeline.mem_restRefs_of main_arg1 (by decide) (by decide)) (by decide) (by decide)).trans (V_main_arg1 m c)
  · exact (kept main_arg2 (Pipeline.mem_restRefs_of main_arg2 (by decide) (by decide)) (by decide) (by decide)).trans (V_main_arg2 m c)
  · exact (kept main_arg3 (Pipeline.mem_restRefs_of main_arg3 (by decide) (by decide)) (by decide) (by decide)).trans (V_main_arg3 m c)
  · exact (kept main_arg4 (Pipeline.mem_restRefs_of main_arg4 (by decide) (by decide)) (by decide) (by decide)).trans (V_main_arg4 m c)
  · exact (kept main_arg5 (Pipeline.mem_restRefs_of main_arg5 (by decide) (by decide)) (by decide) (by decide)).trans (V_main_arg5 m c)
  · exact (kept main_arg6 (Pipeline.mem_restRefs_of main_arg6 (by decide) (by decide)) (by decide) (by decide)).trans (V_main_arg6 m c)

end Cert.KernelIdeal.Run

end
-- ==== Proof.Score.lean ====
module

public import Idealize.ShloMosaic.PureOps.Ideal.Laws

@[expose] public section

noncomputable section

/-! The score of one time step, over the extended reals: a convolution of three taps along time with one row of zeros at either end,
    a rectified bias sum, a linear head and the logistic function. -/
namespace Cert.Score

open Idealize.ShloMosaic

/-- Row `n` of a sample with one row of zeros before it and one after it. -/
def padRow (X : Fin 2048 → Fin 2048 → EReal) (n : ℕ) (k : Fin 2048) : EReal :=
  if h : 1 ≤ n ∧ n ≤ 2048 then X ⟨n - 1, by omega⟩ k else 0

theorem padRow_of (X : Fin 2048 → Fin 2048 → EReal) (n : ℕ) (k r : Fin 2048) (h : n = r.val + 1) : padRow X n k = X r k := by
  subst h
  unfold padRow
  rw [dif_pos ⟨by omega, by omega⟩]
  rfl

theorem padRow_not (X : Fin 2048 → Fin 2048 → EReal) (n : ℕ) (k : Fin 2048) (h : ¬ (1 ≤ n ∧ n ≤ 2048)) : padRow X n k = 0 := dif_neg h

/-- The convolution at time `n` and output channel `o`. -/
def conv (X : Fin 2048 → Fin 2048 → EReal) (W : Fin 512 → Fin 2048 → Fin 3 → EReal) (n : ℕ) (o : Fin 512) : EReal :=
  ∑ k, padRow X n k * W o k 0 + ∑ k, padRow X (n + 1) k * W o k 1 + ∑ k, padRow X (n + 2) k * W o k 2

/-- The head's value at time `n`. -/
def logit (X : Fin 2048 → Fin 2048 → EReal) (W : Fin 512 → Fin 2048 → Fin 3 → EReal) (bc l : Fin 512 → EReal) (lb : EReal) (n : ℕ) : EReal :=
  ∑ o, max (conv X W n o + bc o) 0 * l o + lb

/-- The score at time `n`. -/
def score (X : Fin 2048 → Fin 2048 → EReal) (W : Fin 512 → Fin 2048 → Fin 3 → EReal) (bc l : Fin 512 → EReal) (lb : EReal) (n : ℕ) : EReal :=
  Ideal.div 1 (1 + Ideal.exp (-logit X W bc l lb n))

/-- A factor of 64 comes out of a sum. -/
theorem sum_mul_64 {n : ℕ} (f : Fin n → EReal) : ∑ k, f k * 64 = (∑ k, f k) * 64 := by
  have h0 : (0 : EReal) ≤ 64 := by norm_num
  have ht : (64 : EReal) ≠ ⊤ := by exact_mod_cast EReal.coe_ne_top 64
  classical
  induction (Finset.univ : Finset (Fin n)) using Finset.induction_on with
  | empty => simp
  | insert a s ha ih => rw [Finset.sum_insert ha, Finset.sum_insert ha, ih, EReal.right_distrib_of_nonneg_of_ne_top h0 ht]

/-- Weights scaled by 64 and the sum of the three taps scaled back are the convolution. -/
theorem conv_scaled (X : Fin 2048 → Fin 2048 → EReal) (W : Fin 512 → Fin 2048 → Fin 3 → EReal) (n : ℕ) (o : Fin 512) :
    (∑ k, padRow X n k * (W o k 0 * 64) + ∑ k, padRow X (n + 1) k * (W o k 1 * 64) + ∑ k, padRow X (n + 2) k * (W o k 2 * 64))
      * ((1 / 64 : ℝ) : EReal) = conv X W n o := by
  have h0 : (0 : EReal) ≤ 64 := by norm_num
  have ht : (64 : EReal) ≠ ⊤ := by exact_mod_cast EReal.coe_ne_top 64
  have h1 : (64 : EReal) * ((1 / 64 : ℝ) : EReal) = 1 := by
    rw [show (64 : EReal) = ((64 : ℝ) : EReal) from rfl, ← EReal.coe_mul]
    norm_num
  simp only [← mul_assoc]
  rw [sum_mul_64, sum_mul_64, sum_mul_64, ← EReal.right_distrib_of_nonneg_of_ne_top h0 ht, ← EReal.right_distrib_of_nonneg_of_ne_top h0 ht,
    mul_assoc, h1, mul_one]
  rfl

/-- The logistic function as the reference spells it. -/
theorem logistic_eq (x : EReal) : Ideal.logistic x = Ideal.div 1 (1 + Ideal.exp (-x)) := by
  rfl

end Cert.Score

end
-- ==== Proof.KernelIdealValue.lean ====
module

public import proofs.«01_k».proof.Proof.KernelIdealTracked
public import proofs.«01_k».proof.Proof.Score
public import Idealize.ShloMosaic.Lib.Pointwise
public import Idealize.ShloMosaic.Lib.StableHlo.ReadAt
public import Idealize.ShloMosaic.Lib.Pipeline.ValueKit
public import Idealize.ShloMosaic.Lib.Claim

@[expose] public section

noncomputable section

namespace Cert.KernelIdeal.Run

open Cert.KernelIdeal Cert.KernelIdeal.Gen
open Idealize.ShloMosaic Idealize.ShloMosaic.TcCoe
open Cert.Score

/-! ## The payloads at an index -/

theorem bits_64 : Ideal.ofBits .f32 0x42800000#32 = 64 := by
  simp [Ideal.ofBits, Ideal.ieee]
  rw [← EReal.coe_mul, show (64 : EReal) = ((64 : ℝ) : EReal) from rfl]
  norm_num

theorem bits_64th : Ideal.ofBits .f32 0x3C800000#32 = ((1 / 64 : ℝ) : EReal) := by
  simp [Ideal.ofBits, Ideal.ieee]
  rw [← EReal.coe_mul]
  norm_num

theorem pay1_apply (q : Fin 32) (k : Fin 2048) : (k0_pay1 (F := Ideal) (ix2 q k) : EReal) = 0 := by
  pointwise [k0_pay1]
  simp [Ideal.ofBits, Ideal.e4m3fn]

theorem pay2_apply (q : Fin 32) (k : Fin 2048) : (k0_pay2 (F := Ideal) (ix2 q k) : EReal) = 0 := by
  pointwise [k0_pay2]
  simp [Ideal.ofBits, Ideal.e4m3fn]

theorem pay3_apply (x : Vec Ideal S1x512x2048 .f32) (q : Fin 512) (k : Fin 2048) :
    (k0_pay3 (F := Ideal) x (ix2 q k) : EReal) = x (ix3 0 q k) := by
  pointwise [k0_pay3]

theorem pay4_apply (x : Vec Ideal S512x1 .f32) (i : Fin 1) (q : Fin 512) (z : Fin 1) :
    (k0_pay4 (F := Ideal) x (ix3 i q z) : EReal) = x (ix2 q 0) := by
  pointwise [k0_pay4]

theorem pay5_apply (s : Vec Ideal S576x2048 .fp8e4m3) (w0 w1 w2 : Vec Ideal S1x512x2048 .fp8e4m3) (b : Vec Ideal S1x512 .f32)
    (l : Vec Ideal S512x1 .f32) (bl : Vec Ideal S1x1 .f32) (q : Fin 512) :
    (k0_pay5 (F := Ideal) s w0 w1 w2 b l bl (ix2 q 0) : EReal)
      = Ideal.logistic (∑ o : Fin 512,
          max ((∑ k : Fin 2048, (s (ix2 ⟨31 + q.val, by omega⟩ k) : EReal) * w0 (ix3 0 o k)
              + ∑ k : Fin 2048, (s (ix2 ⟨32 + q.val, by omega⟩ k) : EReal) * w1 (ix3 0 o k)
              + ∑ k : Fin 2048, (s (ix2 ⟨33 + q.val, by omega⟩ k) : EReal) * w2 (ix3 0 o k)) * ((1 / 64 : ℝ) : EReal) + b (ix2 0 o)) 0
            * l (ix2 o 0) + bl (ix2 0 0)) := by
  pointwise [k0_pay5]
  rw [bits_64th]

/-! ## The arguments, curried -/

variable (m : (ℓ : Loc nD τ sig) → Buf (Elt Ideal) ℓ) (ρ : Dev nD → PrngReg)

def argX (c : Dev nD) (b : Fin 2) (r k : Fin 2048) : EReal := m ((c : Thread nD τ).loc main_arg0) (ix3 b r k)
def argW (c : Dev nD) (o : Fin 512) (k : Fin 2048) (j : Fin 3) : EReal := m ((c : Thread nD τ).loc main_arg2) (ix3 o k j)
def argB (c : Dev nD) (o : Fin 512) : EReal := m ((c : Thread nD τ).loc main_arg3) (ix1 o)
def argL (c : Dev nD) (o : Fin 512) : EReal := m ((c : Thread nD τ).loc main_arg4) (ix2 0 o)
def argC (c : Dev nD) : EReal := m ((c : Thread nD τ).loc main_arg5) (ix1 0)

/-! ## The operands that the host prepares, and the windows' blocks -/

theorem weights_apply (c : Dev nD) (j : Fin 3) (o : Fin 512) (k : Fin 2048) :
    ((V m c main_v3 : FVec Ideal S3x512x2048 .fp8e4m3) (ix3 j o k) : EReal) = argW m c o k j * 64 := by
  unfold argW
  rw [← bits_64]
  after_reads_at

theorem bias_apply (c : Dev nD) (o : Fin 512) :
    ((V m c main_v4 : FVec Ideal S1x512 .f32) (ix2 0 o) : EReal) = argB m c o := by
  unfold argB
  after_reads_at

theorem head_apply (c : Dev nD) (o : Fin 512) :
    ((V m c main_v5 : FVec Ideal S512x1 .f32) (ix2 o 0) : EReal) = argL m c o := by
  unfold argL
  after_reads_at

theorem shift_apply (c : Dev nD) :
    ((V m c main_v6 : FVec Ideal S1x1 .f32) (ix2 0 0) : EReal) = argC m c := by
  unfold argC
  after_reads_at

theorem block0 : ∀ t : Fin grid0.N, win0_0.index t = ![t.val / 5, min (t.val % 5) 3, 0] := by decide +kernel
theorem block1 : ∀ t : Fin grid0.N, win0_1.index t = ![0, 0, 0] := by decide +kernel
theorem block2 : ∀ t : Fin grid0.N, win0_2.index t = ![0, 0] := by decide +kernel
theorem block3 : ∀ t : Fin grid0.N, win0_3.index t = ![0, 0] := by decide +kernel
theorem block4 : ∀ t : Fin grid0.N, win0_4.index t = ![0, 0] := by decide +kernel
theorem block5 : ∀ t : Fin grid0.N, win0_5.index t = ![t.val / 5, 0, 0] := by decide +kernel

theorem iblk0_apply (c : Dev nD) (t : Fin grid0.N) (ht : t.val % 5 ≤ 3) (b : Fin 2) (hb : t.val / 5 = b.val) (q : Fin 512) (r k : Fin 2048)
    (hr : r.val = 512 * (t.val % 5) + q.val) :
    ((iblk m c 0 t : Vec Ideal S1x512x2048 .f32) (ix3 0 q k) : EReal) = argX m c b r k := by
  unfold argX
  have e := block0 t
  blk_point [iblk, V]
  · simp [e]; omega
  · simp [e]; omega
  · simp [e]

theorem iblk1_apply (c : Dev nD) (t : Fin grid0.N) (j : Fin 3) (o : Fin 512) (k : Fin 2048) :
    ((iblk m c 1 t : Vec Ideal S3x512x2048 .fp8e4m3) (ix3 j o k) : EReal) = argW m c o k j * 64 := by
  rw [← weights_apply]
  have e := block1 t
  unfold iblk
  blk_ext!
  all_goals simp [e]

theorem iblk2_apply (c : Dev nD) (t : Fin grid0.N) (o : Fin 512) :
    ((iblk m c 2 t : Vec Ideal S1x512 .f32) (ix2 0 o) : EReal) = argB m c o := by
  rw [← bias_apply]
  have e := block2 t
  unfold iblk
  blk_ext!
  all_goals simp [e]

theorem iblk3_apply (c : Dev nD) (t : Fin grid0.N) (o : Fin 512) :
    ((iblk m c 3 t : Vec Ideal S512x1 .f32) (ix2 o 0) : EReal) = argL m c o := by
  rw [← head_apply]
  have e := block3 t
  unfold iblk
  blk_ext!
  all_goals simp [e]

theorem iblk4_apply (c : Dev nD) (t : Fin grid0.N) :
    ((iblk m c 4 t : Vec Ideal S1x1 .f32) (ix2 0 0) : EReal) = argC m c := by
  rw [← shift_apply]
  have e := block4 t
  unfold iblk
  blk_ext!
  all_goals simp [e]

/-! ## The scores at an index -/

/-- A window read at an index. -/
theorem window_at {α : Type} {s : Shape} (x : s.Idx → α) (off size : Fin s.rank → ℕ) (inb : ∀ a, off a + size a ≤ s.size a)
    (q : (⟨s.rank, size⟩ : Shape).Idx) (p : s.Idx) (h : ∀ a, (p a).val = off a + (q a).val) : VecWindow.window x off size inb q = x p :=
  congrArg x (funext fun a => Fin.ext (by
    have e : ((Rect.unit off size inb).emb q a).val = off a + 1 * (q a).val := rfl
    rw [e, h a, one_mul]))

/-- The scratch's rows 31 to 2080 are the sample with a row of zeros at either end. -/
theorem padded_apply (c : Dev nD) (b : Fin 2) (n : Fin 2112) (k : Fin 2048) (h1 : 31 ≤ n.val) (h2 : n.val ≤ 2080) :
    (padded m c b.val (ix2 n k) : EReal) = padRow (argX m c b) (n.val - 31) k := by
  unfold padded
  by_cases h : 32 ≤ n.val ∧ n.val < 2080
  · have hb := b.isLt
    have e : (pt (5 * b.val + (n.val - 32) / 512)).val = 5 * b.val + (n.val - 32) / 512 := by
      show (5 * b.val + (n.val - 32) / 512) % 10 = _
      omega
    refine (dif_pos h).trans ((pay3_apply _ _ _).trans ?_)
    refine (iblk0_apply m c (pt (5 * b.val + (n.val - 32) / 512)) (by rw [e]; omega) b (by rw [e]; omega) ⟨(n.val - 32) % 512, by omega⟩
      ⟨n.val - 32, by omega⟩ k (by rw [e]; show n.val - 32 = _ + (n.val - 32) % 512; omega)).trans ?_
    exact (padRow_of _ _ _ _ (by show n.val - 31 = n.val - 32 + 1; omega)).symm
  · rw [padRow_not _ _ _ (by omega)]
    refine (dif_neg h).trans ?_
    by_cases h' : n.val < 32
    · exact (dif_pos h').trans (pay1_apply _ _)
    · exact (dif_neg h').trans (pay2_apply _ _)

/-- The rows that a tile's products read. -/
theorem rows_apply (c : Dev nD) (t : Fin grid0.N) (ht : t.val % 5 ≠ 0) (b : Fin 2) (a : Fin 576) (k : Fin 2048) (h1 : 31 ≤ a.val) (h2 : a.val ≤ 544) :
    ((VecWindow.window (padded m c b.val) (k0_off2 (grid0.coords t)) S576x2048.size (k0_off2_inb _ (scores_pt t ht)) : Vec Ideal S576x2048 .fp8e4m3) (ix2 a k) : EReal)
      = padRow (argX m c b) (512 * (t.val % 5 - 1) + a.val - 31) k := by
  refine (window_at _ _ _ _ _ (ix2 ⟨512 * (t.val % 5 - 1) + a.val, by omega⟩ k) fun i => ?_).trans
    (padded_apply m c b _ k (by show 31 ≤ 512 * (t.val % 5 - 1) + a.val; omega) (by show 512 * (t.val % 5 - 1) + a.val ≤ 2080; omega))
  rw [off2_pt t ht]
  match i with
  | ⟨0, _⟩ => rfl
  | ⟨1, _⟩ => exact (Nat.zero_add _).symm

/-- One tap's weights. -/
theorem tap_apply (c : Dev nD) (t : Fin grid0.N) (j : Fin 3) (off : Fin 3 → ℕ) (hoff : off = ![j.val, 0, 0])
    (inb : ∀ a, off a + S1x512x2048.size a ≤ S3x512x2048.size a) (o : Fin 512) (k : Fin 2048) :
    ((VecWindow.window (iblk m c 1 t : Vec Ideal S3x512x2048 .fp8e4m3) off S1x512x2048.size inb : Vec Ideal S1x512x2048 .fp8e4m3) (ix3 0 o k) : EReal)
      = argW m c o k j * 64 := by
  subst hoff
  refine (window_at _ _ _ _ _ (ix3 j o k) fun i => ?_).trans (iblk1_apply m c t j o k)
  match i with
  | ⟨0, _⟩ => rfl
  | ⟨1, _⟩ => exact (Nat.zero_add _).symm
  | ⟨2, _⟩ => exact (Nat.zero_add _).symm

/-- The tile that point `t` scores. -/
theorem scoresAt_apply (c : Dev nD) (t : Fin grid0.N) (ht : t.val % 5 ≠ 0) (b : Fin 2) (hb : t.val / 5 = b.val) (q : Fin 512) (n : ℕ)
    (hn : n = 512 * (t.val % 5 - 1) + q.val) :
    (scoresAt m c t ht (ix2 q 0) : EReal) = score (argX m c b) (argW m c) (argB m c) (argL m c) (argC m c) n := by
  unfold scoresAt tile
  rw [hb]
  refine (pay5_apply _ _ _ _ _ _ _ q).trans ?_
  rw [logistic_eq]
  unfold score logit
  rw [iblk4_apply]
  refine congrArg (fun x => Ideal.div 1 (1 + Ideal.exp (-(x + argC m c)))) (Finset.sum_congr rfl fun o _ => ?_)
  rw [iblk2_apply, iblk3_apply, ← conv_scaled]
  refine congrArg (fun x => max (x * ((1 / 64 : ℝ) : EReal) + argB m c o) 0 * argL m c o) ?_
  refine congrArg₂ (· + ·) (congrArg₂ (· + ·) ?_ ?_) ?_ <;> refine Finset.sum_congr rfl fun k _ => ?_
  · rw [rows_apply m c t ht b _ k (Nat.le_add_right _ _) (by show 31 + q.val ≤ 544; omega), tap_apply m c t 0 ![0, 0, 0] rfl,
      show 512 * (t.val % 5 - 1) + (31 + q.val) - 31 = n by omega]
  · rw [rows_apply m c t ht b _ k (by show 31 ≤ 32 + q.val; omega) (by show 32 + q.val ≤ 544; omega), tap_apply m c t 1 ![1, 0, 0] rfl,
      show 512 * (t.val % 5 - 1) + (32 + q.val) - 31 = n + 1 by omega]
  · rw [rows_apply m c t ht b _ k (by show 31 ≤ 33 + q.val; omega) (by show 33 + q.val ≤ 544; omega), tap_apply m c t 2 ![2, 0, 0] rfl,
      show 512 * (t.val % 5 - 1) + (33 + q.val) - 31 = n + 2 by omega]

/-- A sample's scores. -/
theorem scores_apply (c : Dev nD) (b : Fin 2) (r : Fin 2048) :
    (scores m c b.val (ix3 0 r 0) : EReal) = score (argX m c b) (argW m c) (argB m c) (argL m c) (argC m c) r.val := by
  have hb := b.isLt
  have e : (pt (5 * b.val + r.val / 512 + 1)).val = 5 * b.val + r.val / 512 + 1 := by
    show (5 * b.val + r.val / 512 + 1) % 10 = _
    omega
  unfold scores
  refine (pay4_apply _ _ _ _).trans ?_
  exact scoresAt_apply m c _ _ b (by show (pt (5 * b.val + r.val / 512 + 1)).val / 5 = b.val; rw [e]; omega) _ _
    (by show r.val = 512 * ((pt (5 * b.val + r.val / 512 + 1)).val % 5 - 1) + r.val % 512; rw [e]; omega)

/-! ## The result -/

/-- The array that the region leaves: each sample's scores. -/
theorem final (c : Dev nD) : (dats m c).arrAt 5 cfg0.N
    = fun i : S2x2048x1.Idx => scores m c (i 0 : Fin 2).val (ix3 (0 : Fin 1) (i 1 : Fin 2048) (i 2 : Fin 1)) := by
  refine (dats m c).arrAt_eq_of_covers 5 _ (by decide +kernel) fun t hf y => ?_
  have e := block5 t
  blk_simp
  rw [show win0_5.index t 0 = t.val / 5 by rw [e]; rfl]
  refine congrArg (scores m c (t.val / 5)) (funext fun a => Fin.ext ?_)
  match a with
  | ⟨0, _⟩ =>
    have h : (y 0).val < 1 := (y 0).isLt
    show (y 0).val = 0
    omega
  | ⟨1, _⟩ =>
    show (y 1).val = ((win0_5.blk t).view.emb y 1 : Fin 2048).val
    blk_simp
    simp [e]
  | ⟨2, _⟩ =>
    show (y 2).val = ((win0_5.blk t).view.emb y 2 : Fin 1).val
    blk_simp
    simp [e]

/-- What @main returns. -/
theorem result_apply (c : Dev nD) (b : Fin 2) (r : Fin 2048) :
    ((atEnd m c (fun w => (dats m c).arrAt w cfg0.N) main_v7 : FVec Ideal S2x2048 .f32) (ix2 b r) : EReal)
      = score (argX m c b) (argW m c) (argB m c) (argL m c) (argC m c) r.val := by
  rw [← scores_apply]
  unfold atEnd
  after_reads_at
  have h := Pipeline.withArrays_arr spec0 launch0.win.arr_inj c (V0 m c) (fun w => (dats m c).arrAt w cfg0.N) 5
  exact (congrFun h (ix3 b r 0)).trans (congrFun (final m c) (ix3 b r 0))

end Cert.KernelIdeal.Run

end
-- ==== Proof.ReferenceIdealValue.lean ====
module

public import proofs.«01_k».proof.Proof.Gen.ReferenceIdeal.Run
public import proofs.«01_k».proof.Proof.Score
public import Idealize.ShloMosaic.Lib.Pointwise

@[expose] public section

noncomputable section

namespace Cert.ReferenceIdeal.Value

open Cert.ReferenceIdeal Cert.ReferenceIdeal.Gen
open Idealize.ShloMosaic Idealize.ShloMosaic.TcCoe
open Cert.Score

variable (m : (ℓ : Loc nD τ sig) → Buf (Elt Ideal) ℓ)

/-! The arguments, curried. -/
def argX (c : Dev nD) (b : Fin 2) (r k : Fin 2048) : EReal := m ((c : Thread nD τ).loc main_arg0) (ix3 b r k)
def argW (c : Dev nD) (o : Fin 512) (k : Fin 2048) (j : Fin 3) : EReal := m ((c : Thread nD τ).loc main_arg2) (ix3 o k j)
def argB (c : Dev nD) (o : Fin 512) : EReal := m ((c : Thread nD τ).loc main_arg3) (ix1 o)
def argL (c : Dev nD) (o : Fin 512) : EReal := m ((c : Thread nD τ).loc main_arg4) (ix2 0 o)
def argC (c : Dev nD) : EReal := m ((c : Thread nD τ).loc main_arg5) (ix1 0)

/-- The word that the host pads with. -/
theorem fill_eq : (FloatOps.sitofp FTy.f32 0#32 : Ideal .f32) = (0 : EReal) := by
  show (((0#32 : BitVec 32).toInt : ℝ) : EReal) = 0
  simp

/-- What the reference returns. -/
theorem result_apply (c : Dev nD) (b : Fin 2) (t : Fin 2048) :
    ((res_out0 m c : FVec Ideal S2x2048 .f32) (ix2 b t) : EReal) = score (argX m c b) (argW m c) (argB m c) (argL m c) (argC m c) t.val := by
  unfold res_out0
  pointwise [res_main_v50]
  unfold score logit
  refine congrArg (fun x => Ideal.div 1 (1 + Ideal.exp (-(x + argC m c)))) (Finset.sum_congr rfl fun o _ => ?_)
  refine congrArg (fun x => max (x + argB m c o) 0 * argL m c o) ?_
  unfold conv
  refine congrArg₂ (· + ·) (congrArg₂ (· + ·) ?_ ?_) ?_ <;> refine Finset.sum_congr rfl fun k _ => ?_
  · refine congrArg (· * argW m c o k 0) ?_
    by_cases h : 1 ≤ t.val
    · rw [dif_pos (fun a => by
        match a with
        | ⟨0, _⟩ => exact ⟨Nat.zero_le _, Nat.mod_one _, by show (b.val - 0) / (0 + 1) < 2; omega⟩
        | ⟨1, _⟩ => exact ⟨h, Nat.mod_one _, by show (t.val - 1) / (0 + 1) < 2048; omega⟩
        | ⟨2, _⟩ => exact ⟨Nat.zero_le _, Nat.mod_one _, by show (k.val - 0) / (0 + 1) < 2048; omega⟩)]
      exact (padRow_of (argX m c b) _ k ⟨t.val - 1, by omega⟩ (by show t.val = t.val - 1 + 1; omega)).symm
    · rw [dif_neg (fun hc => h (hc (1 : Fin 3)).1), padRow_not _ _ _ (by omega)]
      exact fill_eq
  · refine congrArg (· * argW m c o k 1) ?_
    rw [dif_pos (fun a => by
      match a with
      | ⟨0, _⟩ => exact ⟨Nat.zero_le _, Nat.mod_one _, by show (b.val - 0) / (0 + 1) < 2; omega⟩
      | ⟨1, _⟩ => exact ⟨Nat.le_add_right _ _, Nat.mod_one _, by show (1 + t.val - 1) / (0 + 1) < 2048; omega⟩
      | ⟨2, _⟩ => exact ⟨Nat.zero_le _, Nat.mod_one _, by show (k.val - 0) / (0 + 1) < 2048; omega⟩)]
    exact (padRow_of (argX m c b) _ k t rfl).symm
  · refine congrArg (· * argW m c o k 2) ?_
    by_cases h : t.val + 1 < 2048
    · rw [dif_pos (fun a => by
        match a with
        | ⟨0, _⟩ => exact ⟨Nat.zero_le _, Nat.mod_one _, by show (b.val - 0) / (0 + 1) < 2; omega⟩
        | ⟨1, _⟩ => exact ⟨by show 1 ≤ 2 + t.val; omega, Nat.mod_one _, by show (2 + t.val - 1) / (0 + 1) < 2048; omega⟩
        | ⟨2, _⟩ => exact ⟨Nat.zero_le _, Nat.mod_one _, by show (k.val - 0) / (0 + 1) < 2048; omega⟩)]
      exact (padRow_of (argX m c b) _ k ⟨2 + t.val - 1, by omega⟩ (by show t.val + 2 = 2 + t.val - 1 + 1; omega)).symm
    · rw [dif_neg (fun hc => by
        have h1 : (2 + t.val - 1) / (0 + 1) < 2048 := (hc (1 : Fin 3)).2.2
        omega), padRow_not _ _ _ (by omega)]
      exact fill_eq

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealEnd
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.SL.Sem

/-- The idealized kernel ends with its arguments as launched and its counters at zero. -/
theorem frame_kernelIdeal : Cert.quiescent_KernelIdeal := fun m g _ =>
  (θ_run Cert.KernelIdeal.defs _ _).mono (fun _ h => ⟨fun c => (h.1 c).2, h.2⟩) (Cert.KernelIdeal.Run.run_named_result m g)

/-- So does the reference, which has no counters. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Both programs' results are the scores of the same arguments. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hX : Cert.ReferenceIdeal.Value.argX m' c = Cert.KernelIdeal.Run.argX m c)
    (hW : Cert.ReferenceIdeal.Value.argW m' c = Cert.KernelIdeal.Run.argW m c)
    (hB : Cert.ReferenceIdeal.Value.argB m' c = Cert.KernelIdeal.Run.argB m c)
    (hL : Cert.ReferenceIdeal.Value.argL m' c = Cert.KernelIdeal.Run.argL m c)
    (hC : Cert.ReferenceIdeal.Value.argC m' c = Cert.KernelIdeal.Run.argC m c) :
    (Cert.ReferenceIdeal.Value.res_main_v50 m' c : FVec Ideal Cert.KernelIdeal.S2x2048 .f32)
      = Cert.KernelIdeal.Run.atEnd m c (fun w => (Cert.KernelIdeal.Run.dats m c).arrAt w Cert.KernelIdeal.cfg0.N) Cert.KernelIdeal.main_v7 := by
  refine funext fun (i : Cert.KernelIdeal.S2x2048.Idx) => ?_
  have e : i = ix2 (i 0 : Fin 2) (i 1 : Fin 2048) := by
    funext a
    match a with
    | ⟨0, _⟩ => rfl
    | ⟨1, _⟩ => rfl
  rw [e]
  refine (Cert.ReferenceIdeal.Value.result_apply m' c (i 0) (i 1)).trans ?_
  rw [hX, hW, hB, hL, hC]
  exact (Cert.KernelIdeal.Run.result_apply m c (i 0) (i 1)).symm

/-- The two compute the same scores. -/
theorem same_scores : Cert.algebraic_KernelIdeal_ReferenceIdeal := fun m g m' g' _ hargs =>
  ⟨fun c => Cert.KernelIdeal.Run.atEnd m c (fun w => (Cert.KernelIdeal.Run.dats m c).arrAt w Cert.KernelIdeal.cfg0.N) Cert.KernelIdeal.main_v7,
    (θ_run Cert.KernelIdeal.defs _ _).mono (fun _ h => h.1) (Cert.KernelIdeal.Run.run_named_result m g),
    (θ_run Cert.ReferenceIdeal.defs _ _).mono (fun _ h c => by
      obtain ⟨h0, -, h2, h3, h4, h5, -⟩ := hargs c
      exact ⟨(h c).1.trans (results_agree m m' c
        (funext fun b => funext fun r => funext fun k => congrFun h0 (ix3 b r k))
        (funext fun o => funext fun k => funext fun j => congrFun h2 (ix3 o k j))
        (funext fun o => congrFun h3 (ix1 o)) (funext fun o => congrFun h4 (ix2 0 o)) (congrFun h5 (ix1 0))), (h c).2⟩)
      (Cert.ReferenceIdeal.Value.run m' g')⟩

theorem claim : Cert.Claim := ⟨Cert.Kernel.Gen.facts, Cert.KernelIdeal.Gen.facts, Cert.ReferenceIdeal.Gen.facts,
  fun m g _ => Cert.Kernel.Run.frame_run m g, frame_kernelIdeal, frame_referenceIdeal, trivial, same_scores⟩

end Cert.Proof

end
